-- ==== Defs.lean ====
def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DownKernel (m : (ℓ : Loc Cert.DownKernel.nD Cert.DownKernel.τ Cert.DownKernel.sig) → Buf (Elt Bits) ℓ) : Prop :=
  True

def Pre_DownKernelIdeal (m : (ℓ : Loc Cert.DownKernelIdeal.nD Cert.DownKernelIdeal.τ Cert.DownKernelIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MlpKernel (m : (ℓ : Loc Cert.MlpKernel.nD Cert.MlpKernel.τ Cert.MlpKernel.sig) → Buf (Elt Bits) ℓ) : Prop :=
  True

def Pre_MlpKernelIdeal (m : (ℓ : Loc Cert.MlpKernelIdeal.nD Cert.MlpKernelIdeal.τ Cert.MlpKernelIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_BackKernel (m : (ℓ : Loc Cert.BackKernel.nD Cert.BackKernel.τ Cert.BackKernel.sig) → Buf (Elt Bits) ℓ) : Prop :=
  True

def Pre_BackKernelIdeal (m : (ℓ : Loc Cert.BackKernelIdeal.nD Cert.BackKernelIdeal.τ Cert.BackKernelIdeal.sig) → Buf (Elt Ideal) ℓ) : Prop :=
  True

def Pre_BackReferenceIdeal (m : (ℓ : Loc Cert.BackReferenceIdeal.nD Cert.BackReferenceIdeal.τ Cert.BackReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FeedKernel (m : (ℓ : Loc Cert.FeedKernel.nD Cert.FeedKernel.τ Cert.FeedKernel.sig) → Buf (Elt Bits) ℓ) : Prop :=
  True

def Pre_FeedKernelIdeal (m : (ℓ : Loc Cert.FeedKernelIdeal.nD Cert.FeedKernelIdeal.τ Cert.FeedKernelIdeal.sig) → Buf (Elt Ideal) ℓ) : Prop :=
  True

def Pre_FeedReferenceIdeal (m : (ℓ : Loc Cert.FeedReferenceIdeal.nD Cert.FeedReferenceIdeal.τ Cert.FeedReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7)
      ∧ r.2.mem ((c.tc : Thread Cert.MixKernel.nD Cert.MixKernel.τ).loc Cert.MixKernel.main_arg8) = m ((c.tc : Thread Cert.MixKernel.nD Cert.MixKernel.τ).loc Cert.MixKernel.main_arg8))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
      ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_DownKernel [hDownKernel : Cert.DownKernel.Facts] : Prop :=
  ∀ (m : (ℓ : Loc Cert.DownKernel.nD Cert.DownKernel.τ Cert.DownKernel.sig) → Buf (Elt Bits) ℓ) (g : Dev Cert.DownKernel.nD → PrngReg), Pre_DownKernel m →
    θ_run (Cert.DownKernel.defs (F := Bits)) (onTc (τ := Cert.DownKernel.τ) (Cert.DownKernel.main (F := Bits))) ⟨m, fun _ => 0, g⟩ (fun r => (∀ c : Dev Cert.DownKernel.nD,
      r.2.mem ((c.tc : Thread Cert.DownKernel.nD Cert.DownKernel.τ).loc Cert.DownKernel.main_arg0) = m ((c.tc : Thread Cert.DownKernel.nD Cert.DownKernel.τ).loc Cert.DownKernel.main_arg0)
      ∧ r.2.mem ((c.tc : Thread Cert.DownKernel.nD Cert.DownKernel.τ).loc Cert.DownKernel.main_arg1) = m ((c.tc : Thread Cert.DownKernel.nD Cert.DownKernel.τ).loc Cert.DownKernel.main_arg1))
      ∧ r.2.sem = fun _ => 0)

def quiescent_DownKernelIdeal [hDownKernelIdeal : Cert.DownKernelIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg), Pre_DownKernelIdeal m →
    θ_run (Cert.DownKernelIdeal.defs (F := Ideal)) (onTc (τ := Cert.DownKernelIdeal.τ) (Cert.DownKernelIdeal.main (F := Ideal))) ⟨m, fun _ => 0, g⟩ (fun r => (∀ c : Dev Cert.DownKernelIdeal.nD,
      r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
      ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3))
      ∧ r.2.sem = fun _ => 0)

def quiescent_MlpKernel [hMlpKernel : Cert.MlpKernel.Facts] : Prop :=
  ∀ (m : (ℓ : Loc Cert.MlpKernel.nD Cert.MlpKernel.τ Cert.MlpKernel.sig) → Buf (Elt Bits) ℓ) (g : Dev Cert.MlpKernel.nD → PrngReg), Pre_MlpKernel m →
    θ_run (Cert.MlpKernel.defs (F := Bits)) (onTc (τ := Cert.MlpKernel.τ) (Cert.MlpKernel.main (F := Bits))) ⟨m, fun _ => 0, g⟩ (fun r => (∀ c : Dev Cert.MlpKernel.nD,
      r.2.mem ((c.tc : Thread Cert.MlpKernel.nD Cert.MlpKernel.τ).loc Cert.MlpKernel.main_arg0) = m ((c.tc : Thread Cert.MlpKernel.nD Cert.MlpKernel.τ).loc Cert.MlpKernel.main_arg0)
      ∧ r.2.mem ((c.tc : Thread Cert.MlpKernel.nD Cert.MlpKernel.τ).loc Cert.MlpKernel.main_arg1) = m ((c.tc : Thread Cert.MlpKernel.nD Cert.MlpKernel.τ).loc Cert.MlpKernel.main_arg1)
      ∧ r.2.mem ((c.tc : Thread Cert.MlpKernel.nD Cert.MlpKernel.τ).loc Cert.MlpKernel.main_arg2) = m ((c.tc : Thread Cert.MlpKernel.nD Cert.MlpKernel.τ).loc Cert.MlpKernel.main_arg2)
      ∧ r.2.mem ((c.tc : Thread Cert.MlpKernel.nD Cert.MlpKernel.τ).loc Cert.MlpKernel.main_arg3) = m ((c.tc : Thread Cert.MlpKernel.nD Cert.MlpKernel.τ).loc Cert.MlpKernel.main_arg3)
      ∧ r.2.mem ((c.tc : Thread Cert.MlpKernel.nD Cert.MlpKernel.τ).loc Cert.MlpKernel.main_arg4) = m ((c.tc : Thread Cert.MlpKernel.nD Cert.MlpKernel.τ).loc Cert.MlpKernel.main_arg4))
      ∧ r.2.sem = fun _ => 0)

def quiescent_MlpKernelIdeal [hMlpKernelIdeal : Cert.MlpKernelIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg), Pre_MlpKernelIdeal m →
    θ_run (Cert.MlpKernelIdeal.defs (F := Ideal)) (onTc (τ := Cert.MlpKernelIdeal.τ) (Cert.MlpKernelIdeal.main (F := Ideal))) ⟨m, fun _ => 0, g⟩ (fun r => (∀ c : Dev Cert.MlpKernelIdeal.nD,
      r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
      ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
      ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
      ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
      ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_BackKernel [hBackKernel : Cert.BackKernel.Facts] : Prop :=
  ∀ (m : (ℓ : Loc Cert.BackKernel.nD Cert.BackKernel.τ Cert.BackKernel.sig) → Buf (Elt Bits) ℓ) (g : Dev Cert.BackKernel.nD → PrngReg), Pre_BackKernel m →
    θ_run (Cert.BackKernel.defs (F := Bits)) (onTc (τ := Cert.BackKernel.τ) (Cert.BackKernel.main (F := Bits))) ⟨m, fun _ => 0, g⟩ (fun r => (∀ c : Dev Cert.BackKernel.nD,
      r.2.mem ((c.tc : Thread Cert.BackKernel.nD Cert.BackKernel.τ).loc Cert.BackKernel.main_arg0) = m ((c.tc : Thread Cert.BackKernel.nD Cert.BackKernel.τ).loc Cert.BackKernel.main_arg0)
      ∧ r.2.mem ((c.tc : Thread Cert.BackKernel.nD Cert.BackKernel.τ).loc Cert.BackKernel.main_arg1) = m ((c.tc : Thread Cert.BackKernel.nD Cert.BackKernel.τ).loc Cert.BackKernel.main_arg1)
      ∧ r.2.mem ((c.tc : Thread Cert.BackKernel.nD Cert.BackKernel.τ).loc Cert.BackKernel.main_arg2) = m ((c.tc : Thread Cert.BackKernel.nD Cert.BackKernel.τ).loc Cert.BackKernel.main_arg2)
      ∧ r.2.mem ((c.tc : Thread Cert.BackKernel.nD Cert.BackKernel.τ).loc Cert.BackKernel.main_arg3) = m ((c.tc : Thread Cert.BackKernel.nD Cert.BackKernel.τ).loc Cert.BackKernel.main_arg3)
      ∧ r.2.mem ((c.tc : Thread Cert.BackKernel.nD Cert.BackKernel.τ).loc Cert.BackKernel.main_arg4) = m ((c.tc : Thread Cert.BackKernel.nD Cert.BackKernel.τ).loc Cert.BackKernel.main_arg4)
      ∧ r.2.mem ((c.tc : Thread Cert.BackKernel.nD Cert.BackKernel.τ).loc Cert.BackKernel.main_arg5) = m ((c.tc : Thread Cert.BackKernel.nD Cert.BackKernel.τ).loc Cert.BackKernel.main_arg5)
      ∧ r.2.mem ((c.tc : Thread Cert.BackKernel.nD Cert.BackKernel.τ).loc Cert.BackKernel.main_arg6) = m ((c.tc : Thread Cert.BackKernel.nD Cert.BackKernel.τ).loc Cert.BackKernel.main_arg6)
      ∧ r.2.mem ((c.tc : Thread Cert.BackKernel.nD Cert.BackKernel.τ).loc Cert.BackKernel.main_arg7) = m ((c.tc : Thread Cert.BackKernel.nD Cert.BackKernel.τ).loc Cert.BackKernel.main_arg7))
      ∧ r.2.sem = fun _ => 0)

def quiescent_BackKernelIdeal [hBackKernelIdeal : Cert.BackKernelIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg), Pre_BackKernelIdeal m →
    θ_run (Cert.BackKernelIdeal.defs (F := Ideal)) (onTc (τ := Cert.BackKernelIdeal.τ) (Cert.BackKernelIdeal.main (F := Ideal))) ⟨m, fun _ => 0, g⟩ (fun r => (∀ c : Dev Cert.BackKernelIdeal.nD,
      r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
      ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
      ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
      ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
      ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4)
      ∧ r.2.mem ((c.tc : Thread Cert.BackKernelIdeal.nD Cert.BackKernelIdeal.τ).loc Cert.BackKernelIdeal.main_arg5) = m ((c.tc : Thread Cert.BackKernelIdeal.nD Cert.BackKernelIdeal.τ).loc Cert.BackKernelIdeal.main_arg5)
      ∧ r.2.mem ((c.tc : Thread Cert.BackKernelIdeal.nD Cert.BackKernelIdeal.τ).loc Cert.BackKernelIdeal.main_arg6) = m ((c.tc : Thread Cert.BackKernelIdeal.nD Cert.BackKernelIdeal.τ).loc Cert.BackKernelIdeal.main_arg6)
      ∧ r.2.mem ((c.tc : Thread Cert.BackKernelIdeal.nD Cert.BackKernelIdeal.τ).loc Cert.BackKernelIdeal.main_arg7) = m ((c.tc : Thread Cert.BackKernelIdeal.nD Cert.BackKernelIdeal.τ).loc Cert.BackKernelIdeal.main_arg7))
      ∧ r.2.sem = fun _ => 0)

def quiescent_BackReferenceIdeal [hBackReferenceIdeal : Cert.BackReferenceIdeal.Facts] : Prop :=
  ∀ (m : (ℓ : Loc Cert.BackReferenceIdeal.nD Cert.BackReferenceIdeal.τ Cert.BackReferenceIdeal.sig) → Buf (Elt Ideal) ℓ) (g : Dev Cert.BackReferenceIdeal.nD → PrngReg), Pre_BackReferenceIdeal m →
    θ_run (Cert.BackReferenceIdeal.defs (F := Ideal)) (onTc (τ := Cert.BackReferenceIdeal.τ) (Cert.BackReferenceIdeal.main (F := Ideal))) ⟨m, fun _ => 0, g⟩ (fun r => (∀ c : Dev Cert.BackReferenceIdeal.nD,
      r.2.mem ((c.tc : Thread Cert.BackReferenceIdeal.nD Cert.BackReferenceIdeal.τ).loc Cert.BackReferenceIdeal.main_arg0) = m ((c.tc : Thread Cert.BackReferenceIdeal.nD Cert.BackReferenceIdeal.τ).loc Cert.BackReferenceIdeal.main_arg0)
      ∧ r.2.mem ((c.tc : Thread Cert.BackReferenceIdeal.nD Cert.BackReferenceIdeal.τ).loc Cert.BackReferenceIdeal.main_arg1) = m ((c.tc : Thread Cert.BackReferenceIdeal.nD Cert.BackReferenceIdeal.τ).loc Cert.BackReferenceIdeal.main_arg1)
      ∧ r.2.mem ((c.tc : Thread Cert.BackReferenceIdeal.nD Cert.BackReferenceIdeal.τ).loc Cert.BackReferenceIdeal.main_arg2) = m ((c.tc : Thread Cert.BackReferenceIdeal.nD Cert.BackReferenceIdeal.τ).loc Cert.BackReferenceIdeal.main_arg2)
      ∧ r.2.mem ((c.tc : Thread Cert.BackReferenceIdeal.nD Cert.BackReferenceIdeal.τ).loc Cert.BackReferenceIdeal.main_arg3) = m ((c.tc : Thread Cert.BackReferenceIdeal.nD Cert.BackReferenceIdeal.τ).loc Cert.BackReferenceIdeal.main_arg3)
      ∧ r.2.mem ((c.tc : Thread Cert.BackReferenceIdeal.nD Cert.BackReferenceIdeal.τ).loc Cert.BackReferenceIdeal.main_arg4) = m ((c.tc : Thread Cert.BackReferenceIdeal.nD Cert.BackReferenceIdeal.τ).loc Cert.BackReferenceIdeal.main_arg4)
      ∧ r.2.mem ((c.tc : Thread Cert.BackReferenceIdeal.nD Cert.BackReferenceIdeal.τ).loc Cert.BackReferenceIdeal.main_arg5) = m ((c.tc : Thread Cert.BackReferenceIdeal.nD Cert.BackReferenceIdeal.τ).loc Cert.BackReferenceIdeal.main_arg5)
      ∧ r.2.mem ((c.tc : Thread Cert.BackReferenceIdeal.nD Cert.BackReferenceIdeal.τ).loc Cert.BackReferenceIdeal.main_arg6) = m ((c.tc : Thread Cert.BackReferenceIdeal.nD Cert.BackReferenceIdeal.τ).loc Cert.BackReferenceIdeal.main_arg6)
      ∧ r.2.mem ((c.tc : Thread Cert.BackReferenceIdeal.nD Cert.BackReferenceIdeal.τ).loc Cert.BackReferenceIdeal.main_arg7) = m ((c.tc : Thread Cert.BackReferenceIdeal.nD Cert.BackReferenceIdeal.τ).loc Cert.BackReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6)
      ∧ r.2.mem ((c.tc : Thread Cert.OutKernel.nD Cert.OutKernel.τ).loc Cert.OutKernel.main_arg7) = m ((c.tc : Thread Cert.OutKernel.nD Cert.OutKernel.τ).loc Cert.OutKernel.main_arg7))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
      ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7))
      ∧ r.2.sem = fun _ => 0)

def quiescent_FeedKernel [hFeedKernel : Cert.FeedKernel.Facts] : Prop :=
  ∀ (m : (ℓ : Loc Cert.FeedKernel.nD Cert.FeedKernel.τ Cert.FeedKernel.sig) → Buf (Elt Bits) ℓ) (g : Dev Cert.FeedKernel.nD → PrngReg), Pre_FeedKernel m →
    θ_run (Cert.FeedKernel.defs (F := Bits)) (onTc (τ := Cert.FeedKernel.τ) (Cert.FeedKernel.main (F := Bits))) ⟨m, fun _ => 0, g⟩ (fun r => (∀ c : Dev Cert.FeedKernel.nD,
      r.2.mem ((c.tc : Thread Cert.FeedKernel.nD Cert.FeedKernel.τ).loc Cert.FeedKernel.main_arg0) = m ((c.tc : Thread Cert.FeedKernel.nD Cert.FeedKernel.τ).loc Cert.FeedKernel.main_arg0)
      ∧ r.2.mem ((c.tc : Thread Cert.FeedKernel.nD Cert.FeedKernel.τ).loc Cert.FeedKernel.main_arg1) = m ((c.tc : Thread Cert.FeedKernel.nD Cert.FeedKernel.τ).loc Cert.FeedKernel.main_arg1)
      ∧ r.2.mem ((c.tc : Thread Cert.FeedKernel.nD Cert.FeedKernel.τ).loc Cert.FeedKernel.main_arg2) = m ((c.tc : Thread Cert.FeedKernel.nD Cert.FeedKernel.τ).loc Cert.FeedKernel.main_arg2)
      ∧ r.2.mem ((c.tc : Thread Cert.FeedKernel.nD Cert.FeedKernel.τ).loc Cert.FeedKernel.main_arg3) = m ((c.tc : Thread Cert.FeedKernel.nD Cert.FeedKernel.τ).loc Cert.FeedKernel.main_arg3)
      ∧ r.2.mem ((c.tc : Thread Cert.FeedKernel.nD Cert.FeedKernel.τ).loc Cert.FeedKernel.main_arg4) = m ((c.tc : Thread Cert.FeedKernel.nD Cert.FeedKernel.τ).loc Cert.FeedKernel.main_arg4))
      ∧ r.2.sem = fun _ => 0)

def quiescent_FeedKernelIdeal [hFeedKernelIdeal : Cert.FeedKernelIdeal.Facts] : Prop :=
  ∀ (m : (ℓ : Loc Cert.FeedKernelIdeal.nD Cert.FeedKernelIdeal.τ Cert.FeedKernelIdeal.sig) → Buf (Elt Ideal) ℓ) (g : Dev Cert.FeedKernelIdeal.nD → PrngReg), Pre_FeedKernelIdeal m →
    θ_run (Cert.FeedKernelIdeal.defs (F := Ideal)) (onTc (τ := Cert.FeedKernelIdeal.τ) (Cert.FeedKernelIdeal.main (F := Ideal))) ⟨m, fun _ => 0, g⟩ (fun r => (∀ c : Dev Cert.FeedKernelIdeal.nD,
      r.2.mem ((c.tc : Thread Cert.FeedKernelIdeal.nD Cert.FeedKernelIdeal.τ).loc Cert.FeedKernelIdeal.main_arg0) = m ((c.tc : Thread Cert.FeedKernelIdeal.nD Cert.FeedKernelIdeal.τ).loc Cert.FeedKernelIdeal.main_arg0)
      ∧ r.2.mem ((c.tc : Thread Cert.FeedKernelIdeal.nD Cert.FeedKernelIdeal.τ).loc Cert.FeedKernelIdeal.main_arg1) = m ((c.tc : Thread Cert.FeedKernelIdeal.nD Cert.FeedKernelIdeal.τ).loc Cert.FeedKernelIdeal.main_arg1)
      ∧ r.2.mem ((c.tc : Thread Cert.FeedKernelIdeal.nD Cert.FeedKernelIdeal.τ).loc Cert.FeedKernelIdeal.main_arg2) = m ((c.tc : Thread Cert.FeedKernelIdeal.nD Cert.FeedKernelIdeal.τ).loc Cert.FeedKernelIdeal.main_arg2)
      ∧ r.2.mem ((c.tc : Thread Cert.FeedKernelIdeal.nD Cert.FeedKernelIdeal.τ).loc Cert.FeedKernelIdeal.main_arg3) = m ((c.tc : Thread Cert.FeedKernelIdeal.nD Cert.FeedKernelIdeal.τ).loc Cert.FeedKernelIdeal.main_arg3)
      ∧ r.2.mem ((c.tc : Thread Cert.FeedKernelIdeal.nD Cert.FeedKernelIdeal.τ).loc Cert.FeedKernelIdeal.main_arg4) = m ((c.tc : Thread Cert.FeedKernelIdeal.nD Cert.FeedKernelIdeal.τ).loc Cert.FeedKernelIdeal.main_arg4))
      ∧ r.2.sem = fun _ => 0)

def quiescent_FeedReferenceIdeal [hFeedReferenceIdeal : Cert.FeedReferenceIdeal.Facts] : Prop :=
  ∀ (m : (ℓ : Loc Cert.FeedReferenceIdeal.nD Cert.FeedReferenceIdeal.τ Cert.FeedReferenceIdeal.sig) → Buf (Elt Ideal) ℓ) (g : Dev Cert.FeedReferenceIdeal.nD → PrngReg), Pre_FeedReferenceIdeal m →
    θ_run (Cert.FeedReferenceIdeal.defs (F := Ideal)) (onTc (τ := Cert.FeedReferenceIdeal.τ) (Cert.FeedReferenceIdeal.main (F := Ideal))) ⟨m, fun _ => 0, g⟩ (fun r => (∀ c : Dev Cert.FeedReferenceIdeal.nD,
      r.2.mem ((c.tc : Thread Cert.FeedReferenceIdeal.nD Cert.FeedReferenceIdeal.τ).loc Cert.FeedReferenceIdeal.main_arg0) = m ((c.tc : Thread Cert.FeedReferenceIdeal.nD Cert.FeedReferenceIdeal.τ).loc Cert.FeedReferenceIdeal.main_arg0)
      ∧ r.2.mem ((c.tc : Thread Cert.FeedReferenceIdeal.nD Cert.FeedReferenceIdeal.τ).loc Cert.FeedReferenceIdeal.main_arg1) = m ((c.tc : Thread Cert.FeedReferenceIdeal.nD Cert.FeedReferenceIdeal.τ).loc Cert.FeedReferenceIdeal.main_arg1)
      ∧ r.2.mem ((c.tc : Thread Cert.FeedReferenceIdeal.nD Cert.FeedReferenceIdeal.τ).loc Cert.FeedReferenceIdeal.main_arg2) = m ((c.tc : Thread Cert.FeedReferenceIdeal.nD Cert.FeedReferenceIdeal.τ).loc Cert.FeedReferenceIdeal.main_arg2)
      ∧ r.2.mem ((c.tc : Thread Cert.FeedReferenceIdeal.nD Cert.FeedReferenceIdeal.τ).loc Cert.FeedReferenceIdeal.main_arg3) = m ((c.tc : Thread Cert.FeedReferenceIdeal.nD Cert.FeedReferenceIdeal.τ).loc Cert.FeedReferenceIdeal.main_arg3)
      ∧ r.2.mem ((c.tc : Thread Cert.FeedReferenceIdeal.nD Cert.FeedReferenceIdeal.τ).loc Cert.FeedReferenceIdeal.main_arg4) = m ((c.tc : Thread Cert.FeedReferenceIdeal.nD Cert.FeedReferenceIdeal.τ).loc Cert.FeedReferenceIdeal.main_arg4))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3)
      ∧ r.2.mem ((c.tc : Thread Cert.GateKernel.nD Cert.GateKernel.τ).loc Cert.GateKernel.main_arg4) = m ((c.tc : Thread Cert.GateKernel.nD Cert.GateKernel.τ).loc Cert.GateKernel.main_arg4)
      ∧ r.2.mem ((c.tc : Thread Cert.GateKernel.nD Cert.GateKernel.τ).loc Cert.GateKernel.main_arg5) = m ((c.tc : Thread Cert.GateKernel.nD Cert.GateKernel.τ).loc Cert.GateKernel.main_arg5)
      ∧ r.2.mem ((c.tc : Thread Cert.GateKernel.nD Cert.GateKernel.τ).loc Cert.GateKernel.main_arg6) = m ((c.tc : Thread Cert.GateKernel.nD Cert.GateKernel.τ).loc Cert.GateKernel.main_arg6)
      ∧ r.2.mem ((c.tc : Thread Cert.GateKernel.nD Cert.GateKernel.τ).loc Cert.GateKernel.main_arg7) = m ((c.tc : Thread Cert.GateKernel.nD Cert.GateKernel.τ).loc Cert.GateKernel.main_arg7))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
      ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
      ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
      ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
      ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3)
      ∧ r.2.mem ((c.tc : Thread Cert.GateReferenceIdeal.nD Cert.GateReferenceIdeal.τ).loc Cert.GateReferenceIdeal.main_arg4) = m ((c.tc : Thread Cert.GateReferenceIdeal.nD Cert.GateReferenceIdeal.τ).loc Cert.GateReferenceIdeal.main_arg4)
      ∧ r.2.mem ((c.tc : Thread Cert.GateReferenceIdeal.nD Cert.GateReferenceIdeal.τ).loc Cert.GateReferenceIdeal.main_arg5) = m ((c.tc : Thread Cert.GateReferenceIdeal.nD Cert.GateReferenceIdeal.τ).loc Cert.GateReferenceIdeal.main_arg5)
      ∧ r.2.mem ((c.tc : Thread Cert.GateReferenceIdeal.nD Cert.GateReferenceIdeal.τ).loc Cert.GateReferenceIdeal.main_arg6) = m ((c.tc : Thread Cert.GateReferenceIdeal.nD Cert.GateReferenceIdeal.τ).loc Cert.GateReferenceIdeal.main_arg6)
      ∧ r.2.mem ((c.tc : Thread Cert.GateReferenceIdeal.nD Cert.GateReferenceIdeal.τ).loc Cert.GateReferenceIdeal.main_arg7) = m ((c.tc : Thread Cert.GateReferenceIdeal.nD Cert.GateReferenceIdeal.τ).loc Cert.GateReferenceIdeal.main_arg7))
      ∧ r.2.sem = fun _ => 0)

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)
      ∧ m' ((c.tc : Thread Cert.MixReferenceIdeal.nD Cert.MixReferenceIdeal.τ).loc Cert.MixReferenceIdeal.main_arg8) = m ((c.tc : Thread Cert.MixKernelIdeal.nD Cert.MixKernelIdeal.τ).loc Cert.MixKernelIdeal.main_arg8)) →
    ∃ (v0 : (c : Dev Cert.MixKernelIdeal.nD) → Buf (Elt Ideal) ((c.tc : Thread Cert.MixKernelIdeal.nD Cert.MixKernelIdeal.τ).loc Cert.MixKernelIdeal.main_v21_0)) (v1 : (c : Dev Cert.MixKernelIdeal.nD) → Buf (Elt Ideal) ((c.tc : Thread Cert.MixKernelIdeal.nD Cert.MixKernelIdeal.τ).loc Cert.MixKernelIdeal.main_v21_1)) (v2 : (c : Dev Cert.MixKernelIdeal.nD) → Buf (Elt Ideal) ((c.tc : Thread Cert.MixKernelIdeal.nD Cert.MixKernelIdeal.τ).loc Cert.MixKernelIdeal.main_v21_2)) (v3 : (c : Dev Cert.MixKernelIdeal.nD) → Buf (Elt Ideal) ((c.tc : Thread Cert.MixKernelIdeal.nD Cert.MixKernelIdeal.τ).loc Cert.MixKernelIdeal.main_v21_3)) (v4 : (c : Dev Cert.MixKernelIdeal.nD) → Buf (Elt Ideal) ((c.tc : Thread Cert.MixKernelIdeal.nD Cert.MixKernelIdeal.τ).loc Cert.MixKernelIdeal.main_v21_4)) (v5 : (c : Dev Cert.MixKernelIdeal.nD) → Buf (Elt Ideal) ((c.tc : Thread Cert.MixKernelIdeal.nD Cert.MixKernelIdeal.τ).loc Cert.MixKernelIdeal.main_v21_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v21_0) = v0 c
          ∧ r.2.mem ((c.tc : Thread Cert.MixKernelIdeal.nD Cert.MixKernelIdeal.τ).loc Cert.MixKernelIdeal.main_v21_1) = v1 c
          ∧ r.2.mem ((c.tc : Thread Cert.MixKernelIdeal.nD Cert.MixKernelIdeal.τ).loc Cert.MixKernelIdeal.main_v21_2) = v2 c
          ∧ r.2.mem ((c.tc : Thread Cert.MixKernelIdeal.nD Cert.MixKernelIdeal.τ).loc Cert.MixKernelIdeal.main_v21_3) = v3 c
          ∧ r.2.mem ((c.tc : Thread Cert.MixKernelIdeal.nD Cert.MixKernelIdeal.τ).loc Cert.MixKernelIdeal.main_v21_4) = v4 c
          ∧ r.2.mem ((c.tc : Thread Cert.MixKernelIdeal.nD Cert.MixKernelIdeal.τ).loc Cert.MixKernelIdeal.main_v21_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7)
          ∧ r.2.mem ((c.tc : Thread Cert.MixKernelIdeal.nD Cert.MixKernelIdeal.τ).loc Cert.MixKernelIdeal.main_arg8) = m ((c.tc : Thread Cert.MixKernelIdeal.nD Cert.MixKernelIdeal.τ).loc Cert.MixKernelIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v36) = v0 c
          ∧ r.2.mem ((c.tc : Thread Cert.MixReferenceIdeal.nD Cert.MixReferenceIdeal.τ).loc Cert.MixReferenceIdeal.main_v37) = v1 c
          ∧ r.2.mem ((c.tc : Thread Cert.MixReferenceIdeal.nD Cert.MixReferenceIdeal.τ).loc Cert.MixReferenceIdeal.main_v38) = v2 c
          ∧ r.2.mem ((c.tc : Thread Cert.MixReferenceIdeal.nD Cert.MixReferenceIdeal.τ).loc Cert.MixReferenceIdeal.main_v40) = v3 c
          ∧ r.2.mem ((c.tc : Thread Cert.MixReferenceIdeal.nD Cert.MixReferenceIdeal.τ).loc Cert.MixReferenceIdeal.main_v42) = v4 c
          ∧ r.2.mem ((c.tc : Thread Cert.MixReferenceIdeal.nD Cert.MixReferenceIdeal.τ).loc Cert.MixReferenceIdeal.main_v43) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_DownKernel_DownKernelIdeal : Prop :=
  True

def algebraic_DownKernelIdeal_DownReferenceIdeal [hDownKernelIdeal : Cert.DownKernelIdeal.Facts] [hDownReferenceIdeal : Cert.DownReferenceIdeal.Facts] : Prop :=
  ∀ (m : (ℓ : Loc Cert.DownKernelIdeal.nD Cert.DownKernelIdeal.τ Cert.DownKernelIdeal.sig) → Buf (Elt Ideal) ℓ) (g : Dev Cert.DownKernelIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownKernelIdeal m →
    (∀ c : Dev Cert.DownKernelIdeal.nD,
      m' ((c.tc : Thread Cert.DownReferenceIdeal.nD Cert.DownReferenceIdeal.τ).loc Cert.DownReferenceIdeal.main_arg0) = m ((c.tc : Thread Cert.DownKernelIdeal.nD Cert.DownKernelIdeal.τ).loc Cert.DownKernelIdeal.main_arg0)
      ∧ m' ((c.tc : Thread Cert.DownReferenceIdeal.nD Cert.DownReferenceIdeal.τ).loc Cert.DownReferenceIdeal.main_arg1) = m ((c.tc : Thread Cert.DownKernelIdeal.nD Cert.DownKernelIdeal.τ).loc Cert.DownKernelIdeal.main_arg1)) →
    ∃ (v0 : (c : Dev Cert.DownKernelIdeal.nD) → Buf (Elt Ideal) ((c.tc : Thread Cert.DownKernelIdeal.nD Cert.DownKernelIdeal.τ).loc Cert.DownKernelIdeal.main_v0)),
      θ_run (Cert.DownKernelIdeal.defs (F := Ideal)) (onTc (τ := Cert.DownKernelIdeal.τ) (Cert.DownKernelIdeal.main (F := Ideal))) ⟨m, fun _ => 0, g⟩ (fun r => ∀ c : Dev Cert.DownKernelIdeal.nD,
          r.2.mem ((c.tc : Thread Cert.DownKernelIdeal.nD Cert.DownKernelIdeal.τ).loc Cert.DownKernelIdeal.main_v0) = v0 c
          ∧ r.2.mem ((c.tc : Thread Cert.DownKernelIdeal.nD Cert.DownKernelIdeal.τ).loc Cert.DownKernelIdeal.main_arg0) = m ((c.tc : Thread Cert.DownKernelIdeal.nD Cert.DownKernelIdeal.τ).loc Cert.DownKernelIdeal.main_arg0)
          ∧ r.2.mem ((c.tc : Thread Cert.DownKernelIdeal.nD Cert.DownKernelIdeal.τ).loc Cert.DownKernelIdeal.main_arg1) = m ((c.tc : Thread Cert.DownKernelIdeal.nD Cert.DownKernelIdeal.τ).loc Cert.DownKernelIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v8) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)) →
    ∃ (v0 : (c : Dev Cert.UpKernelIdeal.nD) → Buf (Elt Ideal) ((c.tc : Thread Cert.UpKernelIdeal.nD Cert.UpKernelIdeal.τ).loc Cert.UpKernelIdeal.main_v0)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0) = v0 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v6) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)) →
    ∃ (v0 : (c : Dev Cert.InKernelIdeal.nD) → Buf (Elt Ideal) ((c.tc : Thread Cert.InKernelIdeal.nD Cert.InKernelIdeal.τ).loc Cert.InKernelIdeal.main_v0)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0) = v0 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v12) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3))

def preserves_MlpKernel_MlpKernelIdeal : Prop :=
  True

def algebraic_MlpKernelIdeal_MlpReferenceIdeal [hMlpKernelIdeal : Cert.MlpKernelIdeal.Facts] [hMlpReferenceIdeal : Cert.MlpReferenceIdeal.Facts] : Prop :=
  ∀ (m : (ℓ : Loc Cert.MlpKernelIdeal.nD Cert.MlpKernelIdeal.τ Cert.MlpKernelIdeal.sig) → Buf (Elt Ideal) ℓ) (g : Dev Cert.MlpKernelIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpKernelIdeal m →
    (∀ c : Dev Cert.MlpKernelIdeal.nD,
      m' ((c.tc : Thread Cert.MlpReferenceIdeal.nD Cert.MlpReferenceIdeal.τ).loc Cert.MlpReferenceIdeal.main_arg0) = m ((c.tc : Thread Cert.MlpKernelIdeal.nD Cert.MlpKernelIdeal.τ).loc Cert.MlpKernelIdeal.main_arg0)
      ∧ m' ((c.tc : Thread Cert.MlpReferenceIdeal.nD Cert.MlpReferenceIdeal.τ).loc Cert.MlpReferenceIdeal.main_arg1) = m ((c.tc : Thread Cert.MlpKernelIdeal.nD Cert.MlpKernelIdeal.τ).loc Cert.MlpKernelIdeal.main_arg1)
      ∧ m' ((c.tc : Thread Cert.MlpReferenceIdeal.nD Cert.MlpReferenceIdeal.τ).loc Cert.MlpReferenceIdeal.main_arg2) = m ((c.tc : Thread Cert.MlpKernelIdeal.nD Cert.MlpKernelIdeal.τ).loc Cert.MlpKernelIdeal.main_arg2)
      ∧ m' ((c.tc : Thread Cert.MlpReferenceIdeal.nD Cert.MlpReferenceIdeal.τ).loc Cert.MlpReferenceIdeal.main_arg3) = m ((c.tc : Thread Cert.MlpKernelIdeal.nD Cert.MlpKernelIdeal.τ).loc Cert.MlpKernelIdeal.main_arg3)
      ∧ m' ((c.tc : Thread Cert.MlpReferenceIdeal.nD Cert.MlpReferenceIdeal.τ).loc Cert.MlpReferenceIdeal.main_arg4) = m ((c.tc : Thread Cert.MlpKernelIdeal.nD Cert.MlpKernelIdeal.τ).loc Cert.MlpKernelIdeal.main_arg4)) →
    ∃ (v0 : (c : Dev Cert.MlpKernelIdeal.nD) → Buf (Elt Ideal) ((c.tc : Thread Cert.MlpKernelIdeal.nD Cert.MlpKernelIdeal.τ).loc Cert.MlpKernelIdeal.main_v18_0)) (v1 : (c : Dev Cert.MlpKernelIdeal.nD) → Buf (Elt Ideal) ((c.tc : Thread Cert.MlpKernelIdeal.nD Cert.MlpKernelIdeal.τ).loc Cert.MlpKernelIdeal.main_v18_1)) (v2 : (c : Dev Cert.MlpKernelIdeal.nD) → Buf (Elt Ideal) ((c.tc : Thread Cert.MlpKernelIdeal.nD Cert.MlpKernelIdeal.τ).loc Cert.MlpKernelIdeal.main_v18_2)),
      θ_run (Cert.MlpKernelIdeal.defs (F := Ideal)) (onTc (τ := Cert.MlpKernelIdeal.τ) (Cert.MlpKernelIdeal.main (F := Ideal))) ⟨m, fun _ => 0, g⟩ (fun r => ∀ c : Dev Cert.MlpKernelIdeal.nD,
          r.2.mem ((c.tc : Thread Cert.MlpKernelIdeal.nD Cert.MlpKernelIdeal.τ).loc Cert.MlpKernelIdeal.main_v18_0) = v0 c
          ∧ r.2.mem ((c.tc : Thread Cert.MlpKernelIdeal.nD Cert.MlpKernelIdeal.τ).loc Cert.MlpKernelIdeal.main_v18_1) = v1 c
          ∧ r.2.mem ((c.tc : Thread Cert.MlpKernelIdeal.nD Cert.MlpKernelIdeal.τ).loc Cert.MlpKernelIdeal.main_v18_2) = v2 c
          ∧ r.2.mem ((c.tc : Thread Cert.MlpKernelIdeal.nD Cert.MlpKernelIdeal.τ).loc Cert.MlpKernelIdeal.main_arg0) = m ((c.tc : Thread Cert.MlpKernelIdeal.nD Cert.MlpKernelIdeal.τ).loc Cert.MlpKernelIdeal.main_arg0)
          ∧ r.2.mem ((c.tc : Thread Cert.MlpKernelIdeal.nD Cert.MlpKernelIdeal.τ).loc Cert.MlpKernelIdeal.main_arg1) = m ((c.tc : Thread Cert.MlpKernelIdeal.nD Cert.MlpKernelIdeal.τ).loc Cert.MlpKernelIdeal.main_arg1)
          ∧ r.2.mem ((c.tc : Thread Cert.MlpKernelIdeal.nD Cert.MlpKernelIdeal.τ).loc Cert.MlpKernelIdeal.main_arg2) = m ((c.tc : Thread Cert.MlpKernelIdeal.nD Cert.MlpKernelIdeal.τ).loc Cert.MlpKernelIdeal.main_arg2)
          ∧ r.2.mem ((c.tc : Thread Cert.MlpKernelIdeal.nD Cert.MlpKernelIdeal.τ).loc Cert.MlpKernelIdeal.main_arg3) = m ((c.tc : Thread Cert.MlpKernelIdeal.nD Cert.MlpKernelIdeal.τ).loc Cert.MlpKernelIdeal.main_arg3)
          ∧ r.2.mem ((c.tc : Thread Cert.MlpKernelIdeal.nD Cert.MlpKernelIdeal.τ).loc Cert.MlpKernelIdeal.main_arg4) = m ((c.tc : Thread Cert.MlpKernelIdeal.nD Cert.MlpKernelIdeal.τ).loc Cert.MlpKernelIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v77) = v0 c
          ∧ r.2.mem ((c.tc : Thread Cert.MlpReferenceIdeal.nD Cert.MlpReferenceIdeal.τ).loc Cert.MlpReferenceIdeal.main_v76) = v1 c
          ∧ r.2.mem ((c.tc : Thread Cert.MlpReferenceIdeal.nD Cert.MlpReferenceIdeal.τ).loc Cert.MlpReferenceIdeal.main_v78) = v2 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_BackKernel_BackKernelIdeal : Prop :=
  True

def algebraic_BackKernelIdeal_BackReferenceIdeal [hBackKernelIdeal : Cert.BackKernelIdeal.Facts] [hBackReferenceIdeal : Cert.BackReferenceIdeal.Facts] : Prop :=
  ∀ (m : (ℓ : Loc Cert.BackKernelIdeal.nD Cert.BackKernelIdeal.τ Cert.BackKernelIdeal.sig) → Buf (Elt Ideal) ℓ) (g : Dev Cert.BackKernelIdeal.nD → PrngReg)
    (m' : (ℓ : Loc Cert.BackReferenceIdeal.nD Cert.BackReferenceIdeal.τ Cert.BackReferenceIdeal.sig) → Buf (Elt Ideal) ℓ) (g' : Dev Cert.BackReferenceIdeal.nD → PrngReg), Pre_BackKernelIdeal m →
    (∀ c : Dev Cert.BackKernelIdeal.nD,
      m' ((c.tc : Thread Cert.BackReferenceIdeal.nD Cert.BackReferenceIdeal.τ).loc Cert.BackReferenceIdeal.main_arg0) = m ((c.tc : Thread Cert.BackKernelIdeal.nD Cert.BackKernelIdeal.τ).loc Cert.BackKernelIdeal.main_arg0)
      ∧ m' ((c.tc : Thread Cert.BackReferenceIdeal.nD Cert.BackReferenceIdeal.τ).loc Cert.BackReferenceIdeal.main_arg1) = m ((c.tc : Thread Cert.BackKernelIdeal.nD Cert.BackKernelIdeal.τ).loc Cert.BackKernelIdeal.main_arg1)
      ∧ m' ((c.tc : Thread Cert.BackReferenceIdeal.nD Cert.BackReferenceIdeal.τ).loc Cert.BackReferenceIdeal.main_arg2) = m ((c.tc : Thread Cert.BackKernelIdeal.nD Cert.BackKernelIdeal.τ).loc Cert.BackKernelIdeal.main_arg2)
      ∧ m' ((c.tc : Thread Cert.BackReferenceIdeal.nD Cert.BackReferenceIdeal.τ).loc Cert.BackReferenceIdeal.main_arg3) = m ((c.tc : Thread Cert.BackKernelIdeal.nD Cert.BackKernelIdeal.τ).loc Cert.BackKernelIdeal.main_arg3)
      ∧ m' ((c.tc : Thread Cert.BackReferenceIdeal.nD Cert.BackReferenceIdeal.τ).loc Cert.BackReferenceIdeal.main_arg4) = m ((c.tc : Thread Cert.BackKernelIdeal.nD Cert.BackKernelIdeal.τ).loc Cert.BackKernelIdeal.main_arg4)
      ∧ m' ((c.tc : Thread Cert.BackReferenceIdeal.nD Cert.BackReferenceIdeal.τ).loc Cert.BackReferenceIdeal.main_arg5) = m ((c.tc : Thread Cert.BackKernelIdeal.nD Cert.BackKernelIdeal.τ).loc Cert.BackKernelIdeal.main_arg5)
      ∧ m' ((c.tc : Thread Cert.BackReferenceIdeal.nD Cert.BackReferenceIdeal.τ).loc Cert.BackReferenceIdeal.main_arg6) = m ((c.tc : Thread Cert.BackKernelIdeal.nD Cert.BackKernelIdeal.τ).loc Cert.BackKernelIdeal.main_arg6)
      ∧ m' ((c.tc : Thread Cert.BackReferenceIdeal.nD Cert.BackReferenceIdeal.τ).loc Cert.BackReferenceIdeal.main_arg7) = m ((c.tc : Thread Cert.BackKernelIdeal.nD Cert.BackKernelIdeal.τ).loc Cert.BackKernelIdeal.main_arg7)) →
    ∃ (v0 : (c : Dev Cert.BackKernelIdeal.nD) → Buf (Elt Ideal) ((c.tc : Thread Cert.BackKernelIdeal.nD Cert.BackKernelIdeal.τ).loc Cert.BackKernelIdeal.main_v1_0)),
      θ_run (Cert.BackKernelIdeal.defs (F := Ideal)) (onTc (τ := Cert.BackKernelIdeal.τ) (Cert.BackKernelIdeal.main (F := Ideal))) ⟨m, fun _ => 0, g⟩ (fun r => ∀ c : Dev Cert.BackKernelIdeal.nD,
          r.2.mem ((c.tc : Thread Cert.BackKernelIdeal.nD Cert.BackKernelIdeal.τ).loc Cert.BackKernelIdeal.main_v1_0) = v0 c
          ∧ r.2.mem ((c.tc : Thread Cert.BackKernelIdeal.nD Cert.BackKernelIdeal.τ).loc Cert.BackKernelIdeal.main_arg0) = m ((c.tc : Thread Cert.BackKernelIdeal.nD Cert.BackKernelIdeal.τ).loc Cert.BackKernelIdeal.main_arg0)
          ∧ r.2.mem ((c.tc : Thread Cert.BackKernelIdeal.nD Cert.BackKernelIdeal.τ).loc Cert.BackKernelIdeal.main_arg1) = m ((c.tc : Thread Cert.BackKernelIdeal.nD Cert.BackKernelIdeal.τ).loc Cert.BackKernelIdeal.main_arg1)
          ∧ r.2.mem ((c.tc : Thread Cert.BackKernelIdeal.nD Cert.BackKernelIdeal.τ).loc Cert.BackKernelIdeal.main_arg2) = m ((c.tc : Thread Cert.BackKernelIdeal.nD Cert.BackKernelIdeal.τ).loc Cert.BackKernelIdeal.main_arg2)
          ∧ r.2.mem ((c.tc : Thread Cert.BackKernelIdeal.nD Cert.BackKernelIdeal.τ).loc Cert.BackKernelIdeal.main_arg3) = m ((c.tc : Thread Cert.BackKernelIdeal.nD Cert.BackKernelIdeal.τ).loc Cert.BackKernelIdeal.main_arg3)
          ∧ r.2.mem ((c.tc : Thread Cert.BackKernelIdeal.nD Cert.BackKernelIdeal.τ).loc Cert.BackKernelIdeal.main_arg4) = m ((c.tc : Thread Cert.BackKernelIdeal.nD Cert.BackKernelIdeal.τ).loc Cert.BackKernelIdeal.main_arg4)
          ∧ r.2.mem ((c.tc : Thread Cert.BackKernelIdeal.nD Cert.BackKernelIdeal.τ).loc Cert.BackKernelIdeal.main_arg5) = m ((c.tc : Thread Cert.BackKernelIdeal.nD Cert.BackKernelIdeal.τ).loc Cert.BackKernelIdeal.main_arg5)
          ∧ r.2.mem ((c.tc : Thread Cert.BackKernelIdeal.nD Cert.BackKernelIdeal.τ).loc Cert.BackKernelIdeal.main_arg6) = m ((c.tc : Thread Cert.BackKernelIdeal.nD Cert.BackKernelIdeal.τ).loc Cert.BackKernelIdeal.main_arg6)
          ∧ r.2.mem ((c.tc : Thread Cert.BackKernelIdeal.nD Cert.BackKernelIdeal.τ).loc Cert.BackKernelIdeal.main_arg7) = m ((c.tc : Thread Cert.BackKernelIdeal.nD Cert.BackKernelIdeal.τ).loc Cert.BackKernelIdeal.main_arg7))
      ∧ θ_run (Cert.BackReferenceIdeal.defs (F := Ideal)) (onTc (τ := Cert.BackReferenceIdeal.τ) (Cert.BackReferenceIdeal.main (F := Ideal))) ⟨m', fun _ => 0, g'⟩ (fun r => ∀ c : Dev Cert.BackReferenceIdeal.nD,
          r.2.mem ((c.tc : Thread Cert.BackReferenceIdeal.nD Cert.BackReferenceIdeal.τ).loc Cert.BackReferenceIdeal.main_v38) = v0 c
          ∧ r.2.mem ((c.tc : Thread Cert.BackReferenceIdeal.nD Cert.BackReferenceIdeal.τ).loc Cert.BackReferenceIdeal.main_arg0) = m' ((c.tc : Thread Cert.BackReferenceIdeal.nD Cert.BackReferenceIdeal.τ).loc Cert.BackReferenceIdeal.main_arg0)
          ∧ r.2.mem ((c.tc : Thread Cert.BackReferenceIdeal.nD Cert.BackReferenceIdeal.τ).loc Cert.BackReferenceIdeal.main_arg1) = m' ((c.tc : Thread Cert.BackReferenceIdeal.nD Cert.BackReferenceIdeal.τ).loc Cert.BackReferenceIdeal.main_arg1)
          ∧ r.2.mem ((c.tc : Thread Cert.BackReferenceIdeal.nD Cert.BackReferenceIdeal.τ).loc Cert.BackReferenceIdeal.main_arg2) = m' ((c.tc : Thread Cert.BackReferenceIdeal.nD Cert.BackReferenceIdeal.τ).loc Cert.BackReferenceIdeal.main_arg2)
          ∧ r.2.mem ((c.tc : Thread Cert.BackReferenceIdeal.nD Cert.BackReferenceIdeal.τ).loc Cert.BackReferenceIdeal.main_arg3) = m' ((c.tc : Thread Cert.BackReferenceIdeal.nD Cert.BackReferenceIdeal.τ).loc Cert.BackReferenceIdeal.main_arg3)
          ∧ r.2.mem ((c.tc : Thread Cert.BackReferenceIdeal.nD Cert.BackReferenceIdeal.τ).loc Cert.BackReferenceIdeal.main_arg4) = m' ((c.tc : Thread Cert.BackReferenceIdeal.nD Cert.BackReferenceIdeal.τ).loc Cert.BackReferenceIdeal.main_arg4)
          ∧ r.2.mem ((c.tc : Thread Cert.BackReferenceIdeal.nD Cert.BackReferenceIdeal.τ).loc Cert.BackReferenceIdeal.main_arg5) = m' ((c.tc : Thread Cert.BackReferenceIdeal.nD Cert.BackReferenceIdeal.τ).loc Cert.BackReferenceIdeal.main_arg5)
          ∧ r.2.mem ((c.tc : Thread Cert.BackReferenceIdeal.nD Cert.BackReferenceIdeal.τ).loc Cert.BackReferenceIdeal.main_arg6) = m' ((c.tc : Thread Cert.BackReferenceIdeal.nD Cert.BackReferenceIdeal.τ).loc Cert.BackReferenceIdeal.main_arg6)
          ∧ r.2.mem ((c.tc : Thread Cert.BackReferenceIdeal.nD Cert.BackReferenceIdeal.τ).loc Cert.BackReferenceIdeal.main_arg7) = m' ((c.tc : Thread Cert.BackReferenceIdeal.nD Cert.BackReferenceIdeal.τ).loc Cert.BackReferenceIdeal.main_arg7))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)) →
    ∃ (v0 : (c : Dev Cert.ProjKernelIdeal.nD) → Buf (Elt Ideal) ((c.tc : Thread Cert.ProjKernelIdeal.nD Cert.ProjKernelIdeal.τ).loc Cert.ProjKernelIdeal.main_v0)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v0) = v0 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v3) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)
      ∧ m' ((c.tc : Thread Cert.OutReferenceIdeal.nD Cert.OutReferenceIdeal.τ).loc Cert.OutReferenceIdeal.main_arg6) = m ((c.tc : Thread Cert.OutKernelIdeal.nD Cert.OutKernelIdeal.τ).loc Cert.OutKernelIdeal.main_arg6)
      ∧ m' ((c.tc : Thread Cert.OutReferenceIdeal.nD Cert.OutReferenceIdeal.τ).loc Cert.OutReferenceIdeal.main_arg7) = m ((c.tc : Thread Cert.OutKernelIdeal.nD Cert.OutKernelIdeal.τ).loc Cert.OutKernelIdeal.main_arg7)) →
    ∃ (v0 : (c : Dev Cert.OutKernelIdeal.nD) → Buf (Elt Ideal) ((c.tc : Thread Cert.OutKernelIdeal.nD Cert.OutKernelIdeal.τ).loc Cert.OutKernelIdeal.main_v1_0)) (v1 : (c : Dev Cert.OutKernelIdeal.nD) → Buf (Elt Ideal) ((c.tc : Thread Cert.OutKernelIdeal.nD Cert.OutKernelIdeal.τ).loc Cert.OutKernelIdeal.main_v1_1)) (v2 : (c : Dev Cert.OutKernelIdeal.nD) → Buf (Elt Ideal) ((c.tc : Thread Cert.OutKernelIdeal.nD Cert.OutKernelIdeal.τ).loc Cert.OutKernelIdeal.main_v1_2)) (v3 : (c : Dev Cert.OutKernelIdeal.nD) → Buf (Elt Ideal) ((c.tc : Thread Cert.OutKernelIdeal.nD Cert.OutKernelIdeal.τ).loc Cert.OutKernelIdeal.main_v1_3)) (v4 : (c : Dev Cert.OutKernelIdeal.nD) → Buf (Elt Ideal) ((c.tc : Thread Cert.OutKernelIdeal.nD Cert.OutKernelIdeal.τ).loc Cert.OutKernelIdeal.main_v1_4)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v1_0) = v0 c
          ∧ r.2.mem ((c.tc : Thread Cert.OutKernelIdeal.nD Cert.OutKernelIdeal.τ).loc Cert.OutKernelIdeal.main_v1_1) = v1 c
          ∧ r.2.mem ((c.tc : Thread Cert.OutKernelIdeal.nD Cert.OutKernelIdeal.τ).loc Cert.OutKernelIdeal.main_v1_2) = v2 c
          ∧ r.2.mem ((c.tc : Thread Cert.OutKernelIdeal.nD Cert.OutKernelIdeal.τ).loc Cert.OutKernelIdeal.main_v1_3) = v3 c
          ∧ r.2.mem ((c.tc : Thread Cert.OutKernelIdeal.nD Cert.OutKernelIdeal.τ).loc Cert.OutKernelIdeal.main_v1_4) = v4 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
          ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6)
          ∧ r.2.mem ((c.tc : Thread Cert.OutKernelIdeal.nD Cert.OutKernelIdeal.τ).loc Cert.OutKernelIdeal.main_arg7) = m ((c.tc : Thread Cert.OutKernelIdeal.nD Cert.OutKernelIdeal.τ).loc Cert.OutKernelIdeal.main_arg7))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_v30) = v2 c
          ∧ r.2.mem ((c.tc : Thread Cert.OutReferenceIdeal.nD Cert.OutReferenceIdeal.τ).loc Cert.OutReferenceIdeal.main_v14) = v3 c
          ∧ r.2.mem ((c.tc : Thread Cert.OutReferenceIdeal.nD Cert.OutReferenceIdeal.τ).loc Cert.OutReferenceIdeal.main_v31) = v4 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7))

def preserves_FeedKernel_FeedKernelIdeal : Prop :=
  True

def algebraic_FeedKernelIdeal_FeedReferenceIdeal [hFeedKernelIdeal : Cert.FeedKernelIdeal.Facts] [hFeedReferenceIdeal : Cert.FeedReferenceIdeal.Facts] : Prop :=
  ∀ (m : (ℓ : Loc Cert.FeedKernelIdeal.nD Cert.FeedKernelIdeal.τ Cert.FeedKernelIdeal.sig) → Buf (Elt Ideal) ℓ) (g : Dev Cert.FeedKernelIdeal.nD → PrngReg)
    (m' : (ℓ : Loc Cert.FeedReferenceIdeal.nD Cert.FeedReferenceIdeal.τ Cert.FeedReferenceIdeal.sig) → Buf (Elt Ideal) ℓ) (g' : Dev Cert.FeedReferenceIdeal.nD → PrngReg), Pre_FeedKernelIdeal m →
    (∀ c : Dev Cert.FeedKernelIdeal.nD,
      m' ((c.tc : Thread Cert.FeedReferenceIdeal.nD Cert.FeedReferenceIdeal.τ).loc Cert.FeedReferenceIdeal.main_arg0) = m ((c.tc : Thread Cert.FeedKernelIdeal.nD Cert.FeedKernelIdeal.τ).loc Cert.FeedKernelIdeal.main_arg0)
      ∧ m' ((c.tc : Thread Cert.FeedReferenceIdeal.nD Cert.FeedReferenceIdeal.τ).loc Cert.FeedReferenceIdeal.main_arg1) = m ((c.tc : Thread Cert.FeedKernelIdeal.nD Cert.FeedKernelIdeal.τ).loc Cert.FeedKernelIdeal.main_arg1)
      ∧ m' ((c.tc : Thread Cert.FeedReferenceIdeal.nD Cert.FeedReferenceIdeal.τ).loc Cert.FeedReferenceIdeal.main_arg2) = m ((c.tc : Thread Cert.FeedKernelIdeal.nD Cert.FeedKernelIdeal.τ).loc Cert.FeedKernelIdeal.main_arg2)
      ∧ m' ((c.tc : Thread Cert.FeedReferenceIdeal.nD Cert.FeedReferenceIdeal.τ).loc Cert.FeedReferenceIdeal.main_arg3) = m ((c.tc : Thread Cert.FeedKernelIdeal.nD Cert.FeedKernelIdeal.τ).loc Cert.FeedKernelIdeal.main_arg3)
      ∧ m' ((c.tc : Thread Cert.FeedReferenceIdeal.nD Cert.FeedReferenceIdeal.τ).loc Cert.FeedReferenceIdeal.main_arg4) = m ((c.tc : Thread Cert.FeedKernelIdeal.nD Cert.FeedKernelIdeal.τ).loc Cert.FeedKernelIdeal.main_arg4)) →
    ∃ (v0 : (c : Dev Cert.FeedKernelIdeal.nD) → Buf (Elt Ideal) ((c.tc : Thread Cert.FeedKernelIdeal.nD Cert.FeedKernelIdeal.τ).loc Cert.FeedKernelIdeal.main_v0_0)) (v1 : (c : Dev Cert.FeedKernelIdeal.nD) → Buf (Elt Ideal) ((c.tc : Thread Cert.FeedKernelIdeal.nD Cert.FeedKernelIdeal.τ).loc Cert.FeedKernelIdeal.main_v0_1)) (v2 : (c : Dev Cert.FeedKernelIdeal.nD) → Buf (Elt Ideal) ((c.tc : Thread Cert.FeedKernelIdeal.nD Cert.FeedKernelIdeal.τ).loc Cert.FeedKernelIdeal.main_v0_2)),
      θ_run (Cert.FeedKernelIdeal.defs (F := Ideal)) (onTc (τ := Cert.FeedKernelIdeal.τ) (Cert.FeedKernelIdeal.main (F := Ideal))) ⟨m, fun _ => 0, g⟩ (fun r => ∀ c : Dev Cert.FeedKernelIdeal.nD,
          r.2.mem ((c.tc : Thread Cert.FeedKernelIdeal.nD Cert.FeedKernelIdeal.τ).loc Cert.FeedKernelIdeal.main_v0_0) = v0 c
          ∧ r.2.mem ((c.tc : Thread Cert.FeedKernelIdeal.nD Cert.FeedKernelIdeal.τ).loc Cert.FeedKernelIdeal.main_v0_1) = v1 c
          ∧ r.2.mem ((c.tc : Thread Cert.FeedKernelIdeal.nD Cert.FeedKernelIdeal.τ).loc Cert.FeedKernelIdeal.main_v0_2) = v2 c
          ∧ r.2.mem ((c.tc : Thread Cert.FeedKernelIdeal.nD Cert.FeedKernelIdeal.τ).loc Cert.FeedKernelIdeal.main_arg0) = m ((c.tc : Thread Cert.FeedKernelIdeal.nD Cert.FeedKernelIdeal.τ).loc Cert.FeedKernelIdeal.main_arg0)
          ∧ r.2.mem ((c.tc : Thread Cert.FeedKernelIdeal.nD Cert.FeedKernelIdeal.τ).loc Cert.FeedKernelIdeal.main_arg1) = m ((c.tc : Thread Cert.FeedKernelIdeal.nD Cert.FeedKernelIdeal.τ).loc Cert.FeedKernelIdeal.main_arg1)
          ∧ r.2.mem ((c.tc : Thread Cert.FeedKernelIdeal.nD Cert.FeedKernelIdeal.τ).loc Cert.FeedKernelIdeal.main_arg2) = m ((c.tc : Thread Cert.FeedKernelIdeal.nD Cert.FeedKernelIdeal.τ).loc Cert.FeedKernelIdeal.main_arg2)
          ∧ r.2.mem ((c.tc : Thread Cert.FeedKernelIdeal.nD Cert.FeedKernelIdeal.τ).loc Cert.FeedKernelIdeal.main_arg3) = m ((c.tc : Thread Cert.FeedKernelIdeal.nD Cert.FeedKernelIdeal.τ).loc Cert.FeedKernelIdeal.main_arg3)
          ∧ r.2.mem ((c.tc : Thread Cert.FeedKernelIdeal.nD Cert.FeedKernelIdeal.τ).loc Cert.FeedKernelIdeal.main_arg4) = m ((c.tc : Thread Cert.FeedKernelIdeal.nD Cert.FeedKernelIdeal.τ).loc Cert.FeedKernelIdeal.main_arg4))
      ∧ θ_run (Cert.FeedReferenceIdeal.defs (F := Ideal)) (onTc (τ := Cert.FeedReferenceIdeal.τ) (Cert.FeedReferenceIdeal.main (F := Ideal))) ⟨m', fun _ => 0, g'⟩ (fun r => ∀ c : Dev Cert.FeedReferenceIdeal.nD,
          r.2.mem ((c.tc : Thread Cert.FeedReferenceIdeal.nD Cert.FeedReferenceIdeal.τ).loc Cert.FeedReferenceIdeal.main_v23) = v0 c
          ∧ r.2.mem ((c.tc : Thread Cert.FeedReferenceIdeal.nD Cert.FeedReferenceIdeal.τ).loc Cert.FeedReferenceIdeal.main_v22) = v1 c
          ∧ r.2.mem ((c.tc : Thread Cert.FeedReferenceIdeal.nD Cert.FeedReferenceIdeal.τ).loc Cert.FeedReferenceIdeal.main_v24) = v2 c
          ∧ r.2.mem ((c.tc : Thread Cert.FeedReferenceIdeal.nD Cert.FeedReferenceIdeal.τ).loc Cert.FeedReferenceIdeal.main_arg0) = m' ((c.tc : Thread Cert.FeedReferenceIdeal.nD Cert.FeedReferenceIdeal.τ).loc Cert.FeedReferenceIdeal.main_arg0)
          ∧ r.2.mem ((c.tc : Thread Cert.FeedReferenceIdeal.nD Cert.FeedReferenceIdeal.τ).loc Cert.FeedReferenceIdeal.main_arg1) = m' ((c.tc : Thread Cert.FeedReferenceIdeal.nD Cert.FeedReferenceIdeal.τ).loc Cert.FeedReferenceIdeal.main_arg1)
          ∧ r.2.mem ((c.tc : Thread Cert.FeedReferenceIdeal.nD Cert.FeedReferenceIdeal.τ).loc Cert.FeedReferenceIdeal.main_arg2) = m' ((c.tc : Thread Cert.FeedReferenceIdeal.nD Cert.FeedReferenceIdeal.τ).loc Cert.FeedReferenceIdeal.main_arg2)
          ∧ r.2.mem ((c.tc : Thread Cert.FeedReferenceIdeal.nD Cert.FeedReferenceIdeal.τ).loc Cert.FeedReferenceIdeal.main_arg3) = m' ((c.tc : Thread Cert.FeedReferenceIdeal.nD Cert.FeedReferenceIdeal.τ).loc Cert.FeedReferenceIdeal.main_arg3)
          ∧ r.2.mem ((c.tc : Thread Cert.FeedReferenceIdeal.nD Cert.FeedReferenceIdeal.τ).loc Cert.FeedReferenceIdeal.main_arg4) = m' ((c.tc : Thread Cert.FeedReferenceIdeal.nD Cert.FeedReferenceIdeal.τ).loc Cert.FeedReferenceIdeal.main_arg4))

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)
      ∧ m' ((c.tc : Thread Cert.GateReferenceIdeal.nD Cert.GateReferenceIdeal.τ).loc Cert.GateReferenceIdeal.main_arg4) = m ((c.tc : Thread Cert.GateKernelIdeal.nD Cert.GateKernelIdeal.τ).loc Cert.GateKernelIdeal.main_arg4)
      ∧ m' ((c.tc : Thread Cert.GateReferenceIdeal.nD Cert.GateReferenceIdeal.τ).loc Cert.GateReferenceIdeal.main_arg5) = m ((c.tc : Thread Cert.GateKernelIdeal.nD Cert.GateKernelIdeal.τ).loc Cert.GateKernelIdeal.main_arg5)
      ∧ m' ((c.tc : Thread Cert.GateReferenceIdeal.nD Cert.GateReferenceIdeal.τ).loc Cert.GateReferenceIdeal.main_arg6) = m ((c.tc : Thread Cert.GateKernelIdeal.nD Cert.GateKernelIdeal.τ).loc Cert.GateKernelIdeal.main_arg6)
      ∧ m' ((c.tc : Thread Cert.GateReferenceIdeal.nD Cert.GateReferenceIdeal.τ).loc Cert.GateReferenceIdeal.main_arg7) = m ((c.tc : Thread Cert.GateKernelIdeal.nD Cert.GateKernelIdeal.τ).loc Cert.GateKernelIdeal.main_arg7)) →
    ∃ (v0 : (c : Dev Cert.GateKernelIdeal.nD) → Buf (Elt Ideal) ((c.tc : Thread Cert.GateKernelIdeal.nD Cert.GateKernelIdeal.τ).loc Cert.GateKernelIdeal.main_v10_0)) (v1 : (c : Dev Cert.GateKernelIdeal.nD) → Buf (Elt Ideal) ((c.tc : Thread Cert.GateKernelIdeal.nD Cert.GateKernelIdeal.τ).loc Cert.GateKernelIdeal.main_v10_3)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v10_0) = v0 c
          ∧ r.2.mem ((c.tc : Thread Cert.GateKernelIdeal.nD Cert.GateKernelIdeal.τ).loc Cert.GateKernelIdeal.main_v10_3) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3)
          ∧ r.2.mem ((c.tc : Thread Cert.GateKernelIdeal.nD Cert.GateKernelIdeal.τ).loc Cert.GateKernelIdeal.main_arg4) = m ((c.tc : Thread Cert.GateKernelIdeal.nD Cert.GateKernelIdeal.τ).loc Cert.GateKernelIdeal.main_arg4)
          ∧ r.2.mem ((c.tc : Thread Cert.GateKernelIdeal.nD Cert.GateKernelIdeal.τ).loc Cert.GateKernelIdeal.main_arg5) = m ((c.tc : Thread Cert.GateKernelIdeal.nD Cert.GateKernelIdeal.τ).loc Cert.GateKernelIdeal.main_arg5)
          ∧ r.2.mem ((c.tc : Thread Cert.GateKernelIdeal.nD Cert.GateKernelIdeal.τ).loc Cert.GateKernelIdeal.main_arg6) = m ((c.tc : Thread Cert.GateKernelIdeal.nD Cert.GateKernelIdeal.τ).loc Cert.GateKernelIdeal.main_arg6)
          ∧ r.2.mem ((c.tc : Thread Cert.GateKernelIdeal.nD Cert.GateKernelIdeal.τ).loc Cert.GateKernelIdeal.main_arg7) = m ((c.tc : Thread Cert.GateKernelIdeal.nD Cert.GateKernelIdeal.τ).loc Cert.GateKernelIdeal.main_arg7))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v44) = v0 c
          ∧ r.2.mem ((c.tc : Thread Cert.GateReferenceIdeal.nD Cert.GateReferenceIdeal.τ).loc Cert.GateReferenceIdeal.main_v46) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3)
          ∧ r.2.mem ((c.tc : Thread Cert.GateReferenceIdeal.nD Cert.GateReferenceIdeal.τ).loc Cert.GateReferenceIdeal.main_arg4) = m' ((c.tc : Thread Cert.GateReferenceIdeal.nD Cert.GateReferenceIdeal.τ).loc Cert.GateReferenceIdeal.main_arg4)
          ∧ r.2.mem ((c.tc : Thread Cert.GateReferenceIdeal.nD Cert.GateReferenceIdeal.τ).loc Cert.GateReferenceIdeal.main_arg5) = m' ((c.tc : Thread Cert.GateReferenceIdeal.nD Cert.GateReferenceIdeal.τ).loc Cert.GateReferenceIdeal.main_arg5)
          ∧ r.2.mem ((c.tc : Thread Cert.GateReferenceIdeal.nD Cert.GateReferenceIdeal.τ).loc Cert.GateReferenceIdeal.main_arg6) = m' ((c.tc : Thread Cert.GateReferenceIdeal.nD Cert.GateReferenceIdeal.τ).loc Cert.GateReferenceIdeal.main_arg6)
          ∧ r.2.mem ((c.tc : Thread Cert.GateReferenceIdeal.nD Cert.GateReferenceIdeal.τ).loc Cert.GateReferenceIdeal.main_arg7) = m' ((c.tc : Thread Cert.GateReferenceIdeal.nD Cert.GateReferenceIdeal.τ).loc Cert.GateReferenceIdeal.main_arg7))

def Claim : Prop :=
  ∃ (hMixKernel : Cert.MixKernel.Facts) (hMixKernelIdeal : Cert.MixKernelIdeal.Facts) (hMixReferenceIdeal : Cert.MixReferenceIdeal.Facts) (hDownKernel : Cert.DownKernel.Facts) (hDownKernelIdeal : Cert.DownKernelIdeal.Facts) (hDownReferenceIdeal : Cert.DownReferenceIdeal.Facts) (hUpKernel : Cert.UpKernel.Facts) (hUpKernelIdeal : Cert.UpKernelIdeal.Facts) (hUpReferenceIdeal : Cert.UpReferenceIdeal.Facts) (hInKernel : Cert.InKernel.Facts) (hInKernelIdeal : Cert.InKernelIdeal.Facts) (hInReferenceIdeal : Cert.InReferenceIdeal.Facts) (hMlpKernel : Cert.MlpKernel.Facts) (hMlpKernelIdeal : Cert.MlpKernelIdeal.Facts) (hMlpReferenceIdeal : Cert.MlpReferenceIdeal.Facts) (hBackKernel : Cert.BackKernel.Facts) (hBackKernelIdeal : Cert.BackKernelIdeal.Facts) (hBackReferenceIdeal : Cert.BackReferenceIdeal.Facts) (hProjKernel : Cert.ProjKernel.Facts) (hProjKernelIdeal : Cert.ProjKernelIdeal.Facts) (hProjReferenceIdeal : Cert.ProjReferenceIdeal.Facts) (hOutKernel : Cert.OutKernel.Facts) (hOutKernelIdeal : Cert.OutKernelIdeal.Facts) (hOutReferenceIdeal : Cert.OutReferenceIdeal.Facts) (hFeedKernel : Cert.FeedKernel.Facts) (hFeedKernelIdeal : Cert.FeedKernelIdeal.Facts) (hFeedReferenceIdeal : Cert.FeedReferenceIdeal.Facts) (hGateKernel : Cert.GateKernel.Facts) (hGateKernelIdeal : Cert.GateKernelIdeal.Facts) (hGateReferenceIdeal : Cert.GateReferenceIdeal.Facts),
    quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DownKernel (hDownKernel := hDownKernel)
    ∧ quiescent_DownKernelIdeal (hDownKernelIdeal := hDownKernelIdeal)
    ∧ quiescent_DownReferenceIdeal (hDownReferenceIdeal := hDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_MlpKernel (hMlpKernel := hMlpKernel)
    ∧ quiescent_MlpKernelIdeal (hMlpKernelIdeal := hMlpKernelIdeal)
    ∧ quiescent_MlpReferenceIdeal (hMlpReferenceIdeal := hMlpReferenceIdeal)
    ∧ quiescent_BackKernel (hBackKernel := hBackKernel)
    ∧ quiescent_BackKernelIdeal (hBackKernelIdeal := hBackKernelIdeal)
    ∧ quiescent_BackReferenceIdeal (hBackReferenceIdeal := hBackReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FeedKernel (hFeedKernel := hFeedKernel)
    ∧ quiescent_FeedKernelIdeal (hFeedKernelIdeal := hFeedKernelIdeal)
    ∧ quiescent_FeedReferenceIdeal (hFeedReferenceIdeal := hFeedReferenceIdeal)
    ∧ quiescent_GateKernel (hGateKernel := hGateKernel)
    ∧ quiescent_GateKernelIdeal (hGateKernelIdeal := hGateKernelIdeal)
    ∧ quiescent_GateReferenceIdeal (hGateReferenceIdeal := hGateReferenceIdeal)
    ∧ preserves_MixKernel_MixKernelIdeal
    ∧ algebraic_MixKernelIdeal_MixReferenceIdeal (hMixKernelIdeal := hMixKernelIdeal) (hMixReferenceIdeal := hMixReferenceIdeal)
    ∧ preserves_DownKernel_DownKernelIdeal
    ∧ algebraic_DownKernelIdeal_DownReferenceIdeal (hDownKernelIdeal := hDownKernelIdeal) (hDownReferenceIdeal := hDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_InKernel_InKernelIdeal
    ∧ algebraic_InKernelIdeal_InReferenceIdeal (hInKernelIdeal := hInKernelIdeal) (hInReferenceIdeal := hInReferenceIdeal)
    ∧ preserves_MlpKernel_MlpKernelIdeal
    ∧ algebraic_MlpKernelIdeal_MlpReferenceIdeal (hMlpKernelIdeal := hMlpKernelIdeal) (hMlpReferenceIdeal := hMlpReferenceIdeal)
    ∧ preserves_BackKernel_BackKernelIdeal
    ∧ algebraic_BackKernelIdeal_BackReferenceIdeal (hBackKernelIdeal := hBackKernelIdeal) (hBackReferenceIdeal := hBackReferenceIdeal)
    ∧ preserves_ProjKernel_ProjKernelIdeal
    ∧ algebraic_ProjKernelIdeal_ProjReferenceIdeal (hProjKernelIdeal := hProjKernelIdeal) (hProjReferenceIdeal := hProjReferenceIdeal)
    ∧ preserves_OutKernel_OutKernelIdeal
    ∧ algebraic_OutKernelIdeal_OutReferenceIdeal (hOutKernelIdeal := hOutKernelIdeal) (hOutReferenceIdeal := hOutReferenceIdeal)
    ∧ preserves_FeedKernel_FeedKernelIdeal
    ∧ algebraic_FeedKernelIdeal_FeedReferenceIdeal (hFeedKernelIdeal := hFeedKernelIdeal) (hFeedReferenceIdeal := hFeedReferenceIdeal)
    ∧ preserves_GateKernel_GateKernelIdeal
    ∧ algebraic_GateKernelIdeal_GateReferenceIdeal (hGateKernelIdeal := hGateKernelIdeal) (hGateReferenceIdeal := hGateReferenceIdeal)
-- ==== MixKernel.lean ====
abbrev S4096x1024 : Shape := ⟨2, ![4096, 1024]⟩
abbrev S1024x1024 : Shape := ⟨2, ![1024, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩
abbrev S8x2048 : Shape := ⟨2, ![8, 2048]⟩
abbrev S512x1024 : Shape := ⟨2, ![512, 1024]⟩
abbrev S512x2048 : Shape := ⟨2, ![512, 2048]⟩
abbrev S8x1024 : Shape := ⟨2, ![8, 1024]⟩
abbrev S64x8x1024 : Shape := ⟨3, ![64, 8, 1024]⟩

abbrev nBuf : Space → Nat
  | .hbm => 39
  | .vmem => 25
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S1024x1024, .bf16⟩
  | .hbm, ⟨5, _⟩ => ⟨S1024x2048, .bf16⟩
  | .hbm, ⟨6, _⟩ => ⟨S2048, .f32⟩
  | .hbm, ⟨7, _⟩ => ⟨S1024x1024, .bf16⟩
  | .hbm, ⟨8, _⟩ => ⟨S4096x1024, .bf16⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .bf16⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S1024x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .bf16⟩
  | .hbm, ⟨32, _⟩ => ⟨S4096x2048, .bf16⟩
  | .hbm, ⟨33, _⟩ => ⟨S4096x1024, .bf16⟩
  | .hbm, ⟨34, _⟩ => ⟨S4096x1024, .bf16⟩
  | .hbm, ⟨35, _⟩ => ⟨S4096x1024, .bf16⟩
  | .hbm, ⟨36, _⟩ => ⟨S4096x1024, .bf16⟩
  | .hbm, ⟨37, _⟩ => ⟨S4096x1024, .f32⟩
  | .hbm, ⟨38, _⟩ => ⟨S8x2048, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | .local _ .vmem, ⟨12, _⟩ => ⟨S512x2048, .bf16⟩
  | .local _ .vmem, ⟨13, _⟩ => ⟨S512x2048, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | .local _ .vmem, ⟨24, _⟩ => ⟨S8x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev main_v21_5 : Ref sig .tc := ⟨.hbm, 37, rfl⟩
abbrev main_v21_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixReferenceIdeal.lean ====
abbrev S4096x1024 : Shape := ⟨2, ![4096, 1024]⟩
abbrev S1024x1024 : Shape := ⟨2, ![1024, 1024]⟩
abbrev S1024x2048 : Shape := ⟨2, ![1024, 2048]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S1024x1024, .bf16⟩
  | .hbm, ⟨4, _⟩ => ⟨S1024x1024, .bf16⟩
  | .hbm, ⟨5, _⟩ => ⟨S1024x2048, .bf16⟩
  | .hbm, ⟨6, _⟩ => ⟨S2048, .f32⟩
  | .hbm, ⟨7, _⟩ => ⟨S1024x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S1024x1024, .f32⟩
  | .hbm, ⟨14, _⟩ => ⟨S1024x2048, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .f32⟩
  | .hbm, ⟨48, _⟩ => ⟨S4096x2048, .bf16⟩
  | .hbm, ⟨49, _⟩ => ⟨S4096x1024, .bf16⟩
  | .hbm, ⟨50, _⟩ => ⟨S4096x1024, .bf16⟩
  | .hbm, ⟨51, _⟩ => ⟨S4096x1024, .f32⟩
  | .hbm, ⟨52, _⟩ => ⟨S4096x1024, .bf16⟩
  | .hbm, ⟨53, _⟩ => ⟨S4096x1024, .f32⟩
  | .hbm, ⟨54, _⟩ => ⟨S4096x1024, .bf16⟩
  | .hbm, ⟨55, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== DownKernel.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_4 : BitVec 32 := 0#32
  let v14 : BitVec 1 := Scalar.cmpi .eq arg2 c0_i32_4
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpKernel.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c3_i32 : BitVec 32 := 3#32
  let v5 : BitVec 32 := Scalar.maxsi c0_i32_2 v4
  let v6 : BitVec 32 := Scalar.minsi c3_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InKernel.lean ====
abbrev S4096x1024 : Shape := ⟨2, ![4096, 1024]⟩
abbrev S4096x2048 : Shape := ⟨2, ![4096, 2048]⟩
abbrev S4096x3072 : Shape := ⟨2, ![4096, 3072]⟩
abbrev S1024x6144 : Shape := ⟨2, ![1024, 6144]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x3072, .bf16⟩
  | .hbm, ⟨4, _⟩ => ⟨S1024x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 6, 2], ![false, false, false]⟩

def k0_cond5 (i : grid0.Coords) : BitVec 1 :=
  let arg2 : BitVec 32 := BitVec.ofNat 32 (i 2).val
  let c1_i32 : BitVec 32 := 1#32
  let v19 : BitVec 1 := Scalar.cmpi .eq arg2 c1_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c3_i32 : BitVec 32 := 3#32
  let v1 : BitVec 1 := Scalar.cmpi .slt arg1 c3_i32
  let v2 : BitVec 1 := Scalar.andi v0 v1
  let c0_i32 : BitVec 32 := 0#32
  let v3 : BitVec 32 := Scalar.select v2 arg2 c0_i32
  let c2_i32_0 : BitVec 32 := 2#32
  let v4 : BitVec 32 := Scalar.subi arg1 c2_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg1 c3_i32
  let c6_i32 : BitVec 32 := 6#32
  let v1 : BitVec 1 := Scalar.cmpi .slt arg1 c6_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg1 c3_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== InReferenceIdeal.lean ====
abbrev S4096x1024 : Shape := ⟨2, ![4096, 1024]⟩
abbrev S4096x2048 : Shape := ⟨2, ![4096, 2048]⟩
abbrev S4096x3072 : Shape := ⟨2, ![4096, 3072]⟩
abbrev S_ : Shape := ⟨0, ![]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x3072, .bf16⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x3072, .f32⟩
  | .hbm, ⟨8, _⟩ => ⟨S_, .f32⟩
  | .hbm, ⟨9, _⟩ => ⟨S1024x6144, .f32⟩
  | .hbm, ⟨10, _⟩ => ⟨S4096x6144, .f32⟩
  | .hbm, ⟨11, _⟩ => ⟨S4096x2048, .f32⟩
  | .hbm, ⟨12, _⟩ => ⟨S4096x1024, .f32⟩
  | .hbm, ⟨13, _⟩ => ⟨S4096x3072, .f32⟩
  | .hbm, ⟨14, _⟩ => ⟨S4096x6144, .f32⟩
  | .hbm, ⟨15, _⟩ => ⟨S6144x1024, .f32⟩
  | .hbm, ⟨16, _⟩ => ⟨S1024x6144, .f32⟩
  | .hbm, ⟨17, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MlpKernel.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 30
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x4096, .f32⟩
  | .hbm, ⟨22, _⟩ => ⟨S4096x4096, .f32⟩
  | .hbm, ⟨23, _⟩ => ⟨S4096x4096, .bf16⟩
  | .hbm, ⟨24, _⟩ => ⟨S4096x1024, .bf16⟩
  | .hbm, ⟨25, _⟩ => ⟨S1x1024, .f32⟩
  | .hbm, ⟨26, _⟩ => ⟨S4096x4096, .bf16⟩
  | .hbm, ⟨27, _⟩ => ⟨S4096x1024, .f32⟩
  | .hbm, ⟨28, _⟩ => ⟨S4096x1024, .bf16⟩
  | .hbm, ⟨29, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S1024x4096, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev main_v18_2 : Ref sig .tc := ⟨.hbm, 28, rfl⟩
abbrev main_v18_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MlpReferenceIdeal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .i1⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .i1⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096x4096, .f32⟩
  | .hbm, ⟨82, _⟩ => ⟨S4096x4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x4096, .bf16⟩
  | .hbm, ⟨105, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== BackKernel.lean ====
abbrev S4096x2048 : Shape := ⟨2, ![4096, 2048]⟩
abbrev S4096x1024 : Shape := ⟨2, ![4096, 1024]⟩
abbrev S4096x3072 : Shape := ⟨2, ![4096, 3072]⟩
abbrev S1024x6144 : Shape := ⟨2, ![1024, 6144]⟩
abbrev S1024 : Shape := ⟨1, ![1024]⟩
abbrev S1x1024 : Shape := ⟨2, ![1, 1024]⟩
abbrev S8x1024 : Shape := ⟨2, ![8, 1024]⟩
abbrev S512x2048 : Shape := ⟨2, ![512, 2048]⟩
abbrev S512x1024 : Shape := ⟨2, ![512, 1024]⟩
abbrev S512x3072 : Shape := ⟨2, ![512, 3072]⟩
abbrev S1024x1024 : Shape := ⟨2, ![1024, 1024]⟩
abbrev S512 : Shape := ⟨1, ![512]⟩
abbrev S512x1 : Shape := ⟨2, ![512, 1]⟩
abbrev S64x8x1024 : Shape := ⟨3, ![64, 8, 1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x3072, .bf16⟩
  | .hbm, ⟨3, _⟩ => ⟨S1024x6144, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1x1024, .f32⟩
  | .hbm, ⟨9, _⟩ => ⟨S4096x1024, .f32⟩
  | .hbm, ⟨10, _⟩ => ⟨S8x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S1024x6144, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BackReferenceIdeal.lean ====
abbrev S4096x2048 : Shape := ⟨2, ![4096, 2048]⟩
abbrev S4096x1024 : Shape := ⟨2, ![4096, 1024]⟩
abbrev S4096x3072 : Shape := ⟨2, ![4096, 3072]⟩
abbrev S1024x6144 : Shape := ⟨2, ![1024, 6144]⟩
abbrev S1024 : Shape := ⟨1, ![1024]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x3072, .bf16⟩
  | .hbm, ⟨3, _⟩ => ⟨S1024x6144, .bf16⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S4096x6144, .bf16⟩
  | .hbm, ⟨9, _⟩ => ⟨S4096x6144, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S1024x6144, .f32⟩
  | .hbm, ⟨31, _⟩ => ⟨S4096x6144, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== ProjKernel.lean ====
abbrev S4096x1024 : Shape := ⟨2, ![4096, 1024]⟩
abbrev S1024x6144 : Shape := ⟨2, ![1024, 6144]⟩
abbrev S4096x6144 : Shape := ⟨2, ![4096, 6144]⟩
abbrev S512x1024 : Shape := ⟨2, ![512, 1024]⟩
abbrev S512x6144 : Shape := ⟨2, ![512, 6144]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S512x1024, .bf16⟩
  | .local _ .vmem, ⟨1, _⟩ => ⟨S512x1024, .bf16⟩
  | .local _ .vmem, ⟨2, _⟩ => ⟨S1024x6144, .bf16⟩
  | .local _ .vmem, ⟨3, _⟩ => ⟨S512x6144, .bf16⟩
  | .local _ .vmem, ⟨4, _⟩ => ⟨S512x6144, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ProjReferenceIdeal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutKernel.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S4096x1024 : Shape := ⟨2, ![4096, 1024]⟩
abbrev S4096x2048 : Shape := ⟨2, ![4096, 2048]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x2048, .bf16⟩
  | .hbm, ⟨3, _⟩ => ⟨S4096x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== FeedKernel.lean ====
abbrev S4096x1024 : Shape := ⟨2, ![4096, 1024]⟩
abbrev S1024x4096 : Shape := ⟨2, ![1024, 4096]⟩
abbrev S4096x4096 : Shape := ⟨2, ![4096, 4096]⟩
abbrev S8x1024 : Shape := ⟨2, ![8, 1024]⟩
abbrev S512x1024 : Shape := ⟨2, ![512, 1024]⟩
abbrev S512x4096 : Shape := ⟨2, ![512, 4096]⟩
abbrev S1024x1024 : Shape := ⟨2, ![1024, 1024]⟩
abbrev S64x8x1024 : Shape := ⟨3, ![64, 8, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x4096, .bf16⟩
  | .hbm, ⟨6, _⟩ => ⟨S4096x1024, .f32⟩
  | .hbm, ⟨7, _⟩ => ⟨S4096x1024, .bf16⟩
  | .hbm, ⟨8, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FeedReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1024, .f32⟩
  | .hbm, ⟨37, _⟩ => ⟨S4096x1024, .f32⟩
  | .hbm, ⟨38, _⟩ => ⟨S4096x4096, .bf16⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== GateKernel.lean ====
abbrev S4096x1024 : Shape := ⟨2, ![4096, 1024]⟩
abbrev S4096x6144 : Shape := ⟨2, ![4096, 6144]⟩
abbrev S1024x2048 : Shape := ⟨2, ![1024, 2048]⟩
abbrev S2048 : Shape := ⟨1, ![2048]⟩
abbrev S64 : Shape := ⟨1, ![64]⟩
abbrev S3x1024 : Shape := ⟨2, ![3, 1024]⟩
abbrev S1024 : Shape := ⟨1, ![1024]⟩
abbrev S1x64 : Shape := ⟨2, ![1, 64]⟩
abbrev S16x64 : Shape := ⟨2, ![16, 64]⟩
abbrev S1x1024 : Shape := ⟨2, ![1, 1024]⟩
abbrev S1x2048 : Shape := ⟨2, ![1, 2048]⟩
abbrev S4096x2048 : Shape := ⟨2, ![4096, 2048]⟩
abbrev S512x1024 : Shape := ⟨2, ![512, 1024]⟩
abbrev S8x1024 : Shape := ⟨2, ![8, 1024]⟩
abbrev S512x2048 : Shape := ⟨2, ![512, 2048]⟩
abbrev S128x128 : Shape := ⟨2, ![128, 128]⟩
abbrev S1024x256 : Shape := ⟨2, ![1024, 256]⟩
abbrev S512x256 : Shape := ⟨2, ![512, 256]⟩
abbrev S1x256 : Shape := ⟨2, ![1, 256]⟩
abbrev S512x128 : Shape := ⟨2, ![512, 128]⟩
abbrev S1x128 : Shape := ⟨2, ![1, 128]⟩
abbrev S8x256 : Shape := ⟨2, ![8, 256]⟩
abbrev S3x256 : Shape := ⟨2, ![3, 256]⟩
abbrev S512x1 : Shape := ⟨2, ![512, 1]⟩

abbrev nBuf : Space → Nat
  | .hbm => 22
  | .vmem => 30
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x2048, .bf16⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S3x1024, .f32⟩
  | .hbm, ⟨7, _⟩ => ⟨S1024, .f32⟩
  | .hbm, ⟨8, _⟩ => ⟨S1x64, .f32⟩
  | .hbm, ⟨9, _⟩ => ⟨S16x64, .f32⟩
  | .hbm, ⟨10, _⟩ => ⟨S1024, .f32⟩
  | .hbm, ⟨11, _⟩ => ⟨S1x1024, .f32⟩
  | .hbm, ⟨12, _⟩ => ⟨S1x64, .f32⟩
  | .hbm, ⟨13, _⟩ => ⟨S16x64, .f32⟩
  | .hbm, ⟨14, _⟩ => ⟨S1024, .f32⟩
  | .hbm, ⟨15, _⟩ => ⟨S1x1024, .f32⟩
  | .hbm, ⟨16, _⟩ => ⟨S1x1024, .f32⟩
  | .hbm, ⟨17, _⟩ => ⟨S1x2048, .f32⟩
  | .hbm, ⟨18, _⟩ => ⟨S4096x2048, .bf16⟩
  | .hbm, ⟨19, _⟩ => ⟨S4096x1024, .bf16⟩
  | .hbm, ⟨20, _⟩ => ⟨S4096x1024, .bf16⟩
  | .hbm, ⟨21, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .bf16⟩
  | .local _ .vmem, ⟨17, _⟩ => ⟨S8x1024, .bf16⟩
  | .local _ .vmem, ⟨18, _⟩ => ⟨S8x1024, .bf16⟩
  | .local _ .vmem, ⟨19, _⟩ => ⟨S8x1024, .bf16⟩
  | .local _ .vmem, ⟨20, _⟩ => ⟨S3x1024, .f32⟩
  | .local _ .vmem, ⟨21, _⟩ => ⟨S1x1024, .f32⟩
  | .local _ .vmem, ⟨22, _⟩ => ⟨S512x2048, .bf16⟩
  | .local _ .vmem, ⟨23, _⟩ => ⟨S512x2048, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== GateReferenceIdeal.lean ====
abbrev S4096x1024 : Shape := ⟨2, ![4096, 1024]⟩
abbrev S4096x6144 : Shape := ⟨2, ![4096, 6144]⟩
abbrev S1024x2048 : Shape := ⟨2, ![1024, 2048]⟩
abbrev S2048 : Shape := ⟨1, ![2048]⟩
abbrev S64 : Shape := ⟨1, ![64]⟩
abbrev S3x1024 : Shape := ⟨2, ![3, 1024]⟩
abbrev S1024 : Shape := ⟨1, ![1024]⟩
abbrev S4096x2048 : Shape := ⟨2, ![4096, 2048]⟩
abbrev S1x2048 : Shape := ⟨2, ![1, 2048]⟩
abbrev S_ : Shape := ⟨0, ![]⟩
abbrev S4096x3072 : Shape := ⟨2, ![4096, 3072]⟩
abbrev S4098x1024 : Shape := ⟨2, ![4098, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S1024x2048, .bf16⟩
  | .hbm, ⟨3, _⟩ => ⟨S2048, .f32⟩
  | .hbm, ⟨4, _⟩ => ⟨S64, .f32⟩
  | .hbm, ⟨5, _⟩ => ⟨S64, .f32⟩
  | .hbm, ⟨6, _⟩ => ⟨S3x1024, .f32⟩
  | .hbm, ⟨7, _⟩ => ⟨S1024, .f32⟩
  | .hbm, ⟨8, _⟩ => ⟨S4096x1024, .f32⟩
  | .hbm, ⟨9, _⟩ => ⟨S1024x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x3072, .bf16⟩
  | .hbm, ⟨23, _⟩ => ⟨S4096x3072, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .i32⟩
  | .hbm, ⟨29, _⟩ => ⟨S_, .f32⟩
  | .hbm, ⟨30, _⟩ => ⟨S4098x1024, .f32⟩
  | .hbm, ⟨31, _⟩ => ⟨S1x1024, .f32⟩
  | .hbm, ⟨32, _⟩ => ⟨S1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x2048, .bf16⟩
  | .hbm, ⟨58, _⟩ => ⟨S4096x1024, .f32⟩
  | .hbm, ⟨59, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== Proof.MixKer.lean ====
/-
  The gradient of the gated merge: the value of the kernel call.
-/
module

public import proofs.«01_k».proof.Defs
public import proofs.«01_k».proof.Proof.Gen.MixKernelIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MixKernelIdeal.Hand

open Cert.MixKernelIdeal Cert.MixKernelIdeal.Gen

/-! ## What each store holds, at an index -/

theorem pay5_apply (x : Vec Ideal S512x1024 .bf16) (w : Vec Ideal S1024x1024 .bf16) (g : Vec Ideal S512x1024 .bf16) (p : Fin 512) (q : Fin 1024) :
    k0_pay5 x w g (ix2 p q) = (∑ k : Fin 1024, x (ix2 p k) * w (ix2 q k)) * g (ix2 p q) := by
  unfold_payloads
  pointwise

theorem pay6_apply (x : Vec Ideal S512x1024 .bf16) (w : Vec Ideal S1024x1024 .bf16) (g : Vec Ideal S512x1024 .bf16) (p : Fin 512) (q : Fin 1024) :
    k0_pay6 x w g (ix2 p q) = (∑ k : Fin 1024, x (ix2 p k) * w (ix2 q k)) * g (ix2 p q) := by
  unfold_payloads
  pointwise

theorem pay12_apply (x : Vec Ideal S512x1024 .bf16) (w : Vec Ideal S1024x1024 .bf16) (g y : Vec Ideal S512x1024 .bf16) (p : Fin 512) (q : Fin 1024) :
    k0_pay12 (k0_pay7 x w g y) (ix2 p q)
      = (∑ k : Fin 1024, x (ix2 p k) * w (ix2 q k)) * y (ix2 p q) * g (ix2 p q) * (1 - g (ix2 p q)) := by
  unfold_payloads
  pointwise

theorem pay13_apply (x : Vec Ideal S512x1024 .bf16) (w : Vec Ideal S1024x1024 .bf16) (g y : Vec Ideal S512x1024 .bf16) (p : Fin 512) (q : Fin 1024) :
    k0_pay13 (k0_pay8 x w g y) (ix2 p q)
      = (∑ k : Fin 1024, x (ix2 p k) * w (ix2 q k)) * y (ix2 p q) * g (ix2 p q) * (1 - g (ix2 p q)) := by
  unfold_payloads
  pointwise

theorem pay14_apply (d : FVec Ideal S512x1024 .bf16) (w : Vec Ideal S1024x1024 .bf16) (p : Fin 512) (q : Fin 1024) :
    k0_pay14 d w (ix2 p q) = ∑ k : Fin 1024, d (ix2 p k) * w (ix2 q k) := by
  unfold_payloads
  pointwise

theorem pay15_apply (d : FVec Ideal S512x1024 .bf16) (w : Vec Ideal S1024x1024 .bf16) (p : Fin 512) (q : Fin 1024) :
    k0_pay15 d w (ix2 p q) = ∑ k : Fin 1024, d (ix2 p k) * w (ix2 q k) := by
  unfold_payloads
  pointwise

theorem pay1_apply (dc : FVec Ideal S512x1024 .bf16) (da : FVec Ideal S512x1024 .f32) (wa wc : Vec Ideal S1024x1024 .bf16) (p : Fin 512) (q : Fin 1024) :
    k0_pay1 dc (k0_pay16 da wa) wc (ix2 p q)
      = (∑ k : Fin 1024, k0_pay12 da (ix2 p k) * wa (ix2 q k)) + ∑ k : Fin 1024, dc (ix2 p k) * wc (ix2 q k) := by
  unfold_payloads
  pointwise

/-! ## The results, as functions of whole arrays -/

/-- A column of the first and of the second gate among the columns of both. -/
def lo (j : Fin 1024) : Fin 2048 := ⟨j.val, by have := j.isLt; omega⟩
def hi (j : Fin 1024) : Fin 2048 := ⟨1024 + j.val, by have := j.isLt; omega⟩

/-- The gradient of the merged activations. -/
def DM (dx : S4096x1024.Idx → EReal) (wo : S1024x1024.Idx → EReal) (i : Fin 4096) (j : Fin 1024) : EReal :=
  ∑ k : Fin 1024, dx (ix2 i k) * wo (ix2 j k)

/-- The gradient of one branch's projection: through the gate's column `jj`. -/
def DY (dx : S4096x1024.Idx → EReal) (g : S4096x2048.Idx → EReal) (wo : S1024x1024.Idx → EReal) (i : Fin 4096) (j : Fin 1024) (jj : Fin 2048) : EReal :=
  DM dx wo i j * g (ix2 i jj)

/-- The gradient of one branch's gate before the sigmoid. -/
def DZ (dx : S4096x1024.Idx → EReal) (g : S4096x2048.Idx → EReal) (y : S4096x1024.Idx → EReal) (wo : S1024x1024.Idx → EReal) (i : Fin 4096) (j : Fin 1024) (jj : Fin 2048) : EReal :=
  DM dx wo i j * y (ix2 i j) * g (ix2 i jj) * (1 - g (ix2 i jj))

def W8 (dx : S4096x1024.Idx → EReal) (g : S4096x2048.Idx → EReal) (ya yc : S4096x1024.Idx → EReal) (wo : S1024x1024.Idx → EReal) : S4096x2048.Idx → EReal := fun i =>
  if h : (i 1).val < 1024 then DZ dx g ya wo (i 0) ⟨(i 1).val, h⟩ (i 1)
  else DZ dx g yc wo (i 0) ⟨(i 1).val - 1024, by have : (i 1).val < 2048 := (i 1).isLt; omega⟩ (i 1)

def W9 (dx : S4096x1024.Idx → EReal) (g : S4096x2048.Idx → EReal) (wo : S1024x1024.Idx → EReal) : S4096x1024.Idx → EReal := fun i =>
  DY dx g wo (i 0) (i 1) (lo (i 1))

def W10 (dx : S4096x1024.Idx → EReal) (g : S4096x2048.Idx → EReal) (wo : S1024x1024.Idx → EReal) : S4096x1024.Idx → EReal := fun i =>
  DY dx g wo (i 0) (i 1) (hi (i 1))

def W11 (dx : S4096x1024.Idx → EReal) (g : S4096x2048.Idx → EReal) (wo wp : S1024x1024.Idx → EReal) : S4096x1024.Idx → EReal := fun i =>
  ∑ k : Fin 1024, DY dx g wo (i 0) k (lo k) * wp (ix2 (i 1) k)

def W12 (dx : S4096x1024.Idx → EReal) (g : S4096x2048.Idx → EReal) (wo wp : S1024x1024.Idx → EReal) : S4096x1024.Idx → EReal := fun i =>
  ∑ k : Fin 1024, DY dx g wo (i 0) k (hi k) * wp (ix2 (i 1) k)

def W13 (dx : S4096x1024.Idx → EReal) (g : S4096x2048.Idx → EReal) (ya yc : S4096x1024.Idx → EReal) (wo : S1024x1024.Idx → EReal) (wg : S1024x2048.Idx → EReal) : S4096x1024.Idx → EReal := fun i =>
  (∑ k : Fin 1024, DZ dx g ya wo (i 0) k (lo k) * wg (ix2 (i 1) (lo k))) + ∑ k : Fin 1024, DZ dx g yc wo (i 0) k (hi k) * wg (ix2 (i 1) (hi k))

/-! ## The staged blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = m ((c : Thread nD τ).loc main_arg8) (ix2 (row t p) q) := by
  unfold iblk
  rw [View.read_apply]
  show V m c main_arg8 _ = _
  rw [V_main_arg8]
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 512) (q : Fin 2048) :
    iblk m c 1 t (ix2 p q) = V m c main_v20 (ix2 (row t p) q) := by
  unfold iblk
  rw [View.read_apply]
  show V m c main_v20 _ = _
  congr 1
  funext a
  apply Fin.ext
  match a with
  | ⟨0, _⟩ => show win0_1.index t 0 * 512 + 1 * p.val = t.val * 512 + p.val; rw [idx1]; simp
  | ⟨1, _⟩ => show win0_1.index t 1 * 2048 + 1 * q.val = q.val; rw [idx1]; simp

theorem blk2 (c : Dev nD) (t : Fin cfg0.N) (p : Fin 512) (q : Fin 1024) :
    iblk m c 2 t (ix2 p q) = V m c main_v3 (ix2 (row t p) q) := by
  unfold iblk
  rw [View.read_apply]
  show V m c main_v3 _ = _
  congr 1
  funext a
  apply Fin.ext
  match a with
  | ⟨0, _⟩ => show win0_2.index t 0 * 512 + 1 * p.val = t.val * 512 + p.val; rw [idx2]; simp
  | ⟨1, _⟩ => show win0_2.index t 1 * 1024 + 1 * q.val = q.val; rw [idx2]; simp

theorem blk3 (c : Dev nD) (t : Fin cfg0.N) (p : Fin 512) (q : Fin 1024) :
    iblk m c 3 t (ix2 p q) = V m c main_v7 (ix2 (row t p) q) := by
  unfold iblk
  rw [View.read_apply]
  show V m c main_v7 _ = _
  congr 1
  funext a
  apply Fin.ext
  match a with
  | ⟨0, _⟩ => show win0_3.index t 0 * 512 + 1 * p.val = t.val * 512 + p.val; rw [idx3]; simp
  | ⟨1, _⟩ => show win0_3.index t 1 * 1024 + 1 * q.val = q.val; rw [idx3]; simp

theorem blk4 (c : Dev nD) (t : Fin cfg0.N) (p : Fin 1024) (q : Fin 1024) :
    iblk m c 4 t (ix2 p q) = m ((c : Thread nD τ).loc main_arg7) (ix2 p q) := by
  unfold iblk
  rw [View.read_apply]
  show V m c main_arg7 _ = _
  rw [V_main_arg7]
  congr 1
  funext a
  apply Fin.ext
  match a with
  | ⟨0, _⟩ => show win0_4.index t 0 * 1024 + 1 * p.val = p.val; rw [idx4]; simp
  | ⟨1, _⟩ => show win0_4.index t 1 * 1024 + 1 * q.val = q.val; rw [idx4]; simp

theorem blk5 (c : Dev nD) (t : Fin cfg0.N) (p : Fin 1024) (q : Fin 1024) :
    iblk m c 5 t (ix2 p q) = m ((c : Thread nD τ).loc main_arg3) (ix2 p q) := by
  unfold iblk
  rw [View.read_apply]
  show V m c main_arg3 _ = _
  rw [V_main_arg3]
  congr 1
  funext a
  apply Fin.ext
  match a with
  | ⟨0, _⟩ => show win0_5.index t 0 * 1024 + 1 * p.val = p.val; rw [idx5]; simp
  | ⟨1, _⟩ => show win0_5.index t 1 * 1024 + 1 * q.val = q.val; rw [idx5]; simp

theorem blk6 (c : Dev nD) (t : Fin cfg0.N) (p : Fin 1024) (q : Fin 1024) :
    iblk m c 6 t (ix2 p q) = m ((c : Thread nD τ).loc main_arg4) (ix2 p q) := by
  unfold iblk
  rw [View.read_apply]
  show V m c main_arg4 _ = _
  rw [V_main_arg4]
  congr 1
  funext a
  apply Fin.ext
  match a with
  | ⟨0, _⟩ => show win0_6.index t 0 * 1024 + 1 * p.val = p.val; rw [idx6]; simp
  | ⟨1, _⟩ => show win0_6.index t 1 * 1024 + 1 * q.val = q.val; rw [idx6]; simp

theorem blk7 (c : Dev nD) (t : Fin cfg0.N) (p : Fin 1024) (q : Fin 2048) :
    iblk m c 7 t (ix2 p q) = m ((c : Thread nD τ).loc main_arg5) (ix2 p q) := by
  unfold iblk
  rw [View.read_apply]
  show V m c main_arg5 _ = _
  rw [V_main_arg5]
  congr 1
  funext a
  apply Fin.ext
  match a with
  | ⟨0, _⟩ => show win0_7.index t 0 * 1024 + 1 * p.val = p.val; rw [idx7]; simp
  | ⟨1, _⟩ => show win0_7.index t 1 * 2048 + 1 * q.val = q.val; rw [idx7]; simp

/-- The left and the right half of a block's columns. -/
theorem ld_lo (X : Vec Ideal S512x2048 .bf16) (p : Fin 512) (q : Fin 1024) :
    View.ld X (Rect.unit ![0, 0] ![512, 1024] inb_S512x2048_S512x1024_0_0) (ix2 p q) = X (ix2 p (lo q)) := by
  refine congrArg X (funext fun a => Fin.ext ?_)
  match a with
  | ⟨0, _⟩ => show 0 + 1 * p.val = p.val; omega
  | ⟨1, _⟩ => show 0 + 1 * q.val = q.val; omega
theorem ld_hi (X : Vec Ideal S512x2048 .bf16) (p : Fin 512) (q : Fin 1024) :
    View.ld X (Rect.unit ![0, 1024] ![512, 1024] inb_S512x2048_S512x1024_0_1024) (ix2 p q) = X (ix2 p (hi q)) := by
  refine congrArg X (funext fun a => Fin.ext ?_)
  match a with
  | ⟨0, _⟩ => show 0 + 1 * p.val = p.val; omega
  | ⟨1, _⟩ => show 1024 + 1 * q.val = 1024 + q.val; omega
theorem ldw_lo (X : Vec Ideal S1024x2048 .bf16) (p q : Fin 1024) :
    View.ld X (Rect.unit ![0, 0] ![1024, 1024] inb_S1024x2048_S1024x1024_0_0) (ix2 p q) = X (ix2 p (lo q)) := by
  refine congrArg X (funext fun a => Fin.ext ?_)
  match a with
  | ⟨0, _⟩ => show 0 + 1 * p.val = p.val; omega
  | ⟨1, _⟩ => show 0 + 1 * q.val = q.val; omega
theorem ldw_hi (X : Vec Ideal S1024x2048 .bf16) (p q : Fin 1024) :
    View.ld X (Rect.unit ![0, 1024] ![1024, 1024] inb_S1024x2048_S1024x1024_0_1024) (ix2 p q) = X (ix2 p (hi q)) := by
  refine congrArg X (funext fun a => Fin.ext ?_)
  match a with
  | ⟨0, _⟩ => show 0 + 1 * p.val = p.val; omega
  | ⟨1, _⟩ => show 1024 + 1 * q.val = 1024 + q.val; omega

/-- The blocks of the incoming gradient and of the output weight, of the first gate, of the second, and the two halves of
    the gates' weight. -/
abbrev dx (c : Dev nD) (t : Fin cfg0.N) : Vec Ideal S512x1024 .bf16 := iblk m c 0 t
abbrev wo (c : Dev nD) (t : Fin cfg0.N) : Vec Ideal S1024x1024 .bf16 := iblk m c 4 t
abbrev ga (c : Dev nD) (t : Fin cfg0.N) : Vec Ideal S512x1024 .bf16 := View.ld (iblk m c 1 t) (Rect.unit ![0, 0] ![512, 1024] inb_S512x2048_S512x1024_0_0)
abbrev gc (c : Dev nD) (t : Fin cfg0.N) : Vec Ideal S512x1024 .bf16 := View.ld (iblk m c 1 t) (Rect.unit ![0, 1024] ![512, 1024] inb_S512x2048_S512x1024_0_1024)
abbrev wa (c : Dev nD) (t : Fin cfg0.N) : Vec Ideal S1024x1024 .bf16 := View.ld (iblk m c 7 t) (Rect.unit ![0, 0] ![1024, 1024] inb_S1024x2048_S1024x1024_0_0)
abbrev wc (c : Dev nD) (t : Fin cfg0.N) : Vec Ideal S1024x1024 .bf16 := View.ld (iblk m c 7 t) (Rect.unit ![0, 1024] ![1024, 1024] inb_S1024x2048_S1024x1024_0_1024)

theorem ga_apply (c : Dev nD) (t : Fin cfg0.N) (p : Fin 512) (q : Fin 1024) : ga m c t (ix2 p q) = V m c main_v20 (ix2 (row t p) (lo q)) :=
  (ld_lo (iblk m c 1 t) p q).trans (blk1 m c t p (lo q))
theorem gc_apply (c : Dev nD) (t : Fin cfg0.N) (p : Fin 512) (q : Fin 1024) : gc m c t (ix2 p q) = V m c main_v20 (ix2 (row t p) (hi q)) :=
  (ld_hi (iblk m c 1 t) p q).trans (blk1 m c t p (hi q))
theorem wa_apply (c : Dev nD) (t : Fin cfg0.N) (p q : Fin 1024) : wa m c t (ix2 p q) = m ((c : Thread nD τ).loc main_arg5) (ix2 p (lo q)) :=
  (ldw_lo (iblk m c 7 t) p q).trans (blk7 m c t p (lo q))
theorem wc_apply (c : Dev nD) (t : Fin cfg0.N) (p q : Fin 1024) : wc m c t (ix2 p q) = m ((c : Thread nD τ).loc main_arg5) (ix2 p (hi q)) :=
  (ldw_hi (iblk m c 7 t) p q).trans (blk7 m c t p (hi q))

/-! ## What a point's stores hold -/

theorem dm_apply (c : Dev nD) (t : Fin cfg0.N) (p : Fin 512) (q : Fin 1024) :
    ∑ k : Fin 1024, dx m c t (ix2 p k) * wo m c t (ix2 q k)
      = DM (m ((c : Thread nD τ).loc main_arg8)) (m ((c : Thread nD τ).loc main_arg7)) (row t p) q :=
  Finset.sum_congr rfl fun k _ => congrArg₂ (· * ·) (blk0 m c t p k) (blk4 m c t q k)

theorem dya_apply (c : Dev nD) (t : Fin cfg0.N) (p : Fin 512) (q : Fin 1024) :
    k0_pay5 (dx m c t) (wo m c t) (ga m c t) (ix2 p q)
      = DY (m ((c : Thread nD τ).loc main_arg8)) (V m c main_v20) (m ((c : Thread nD τ).loc main_arg7)) (row t p) q (lo q) := by
  exact (pay5_apply _ _ _ p q).trans (congrArg₂ (· * ·) (dm_apply m c t p q) (ga_apply m c t p q))

theorem dyc_apply (c : Dev nD) (t : Fin cfg0.N) (p : Fin 512) (q : Fin 1024) :
    k0_pay6 (dx m c t) (wo m c t) (gc m c t) (ix2 p q)
      = DY (m ((c : Thread nD τ).loc main_arg8)) (V m c main_v20) (m ((c : Thread nD τ).loc main_arg7)) (row t p) q (hi q) := by
  exact (pay6_apply _ _ _ p q).trans (congrArg₂ (· * ·) (dm_apply m c t p q) (gc_apply m c t p q))

theorem dza_apply (c : Dev nD) (t : Fin cfg0.N) (p : Fin 512) (q : Fin 1024) :
    k0_pay12 (k0_pay7 (dx m c t) (wo m c t) (ga m c t) (iblk m c 2 t)) (ix2 p q)
      = DZ (m ((c : Thread nD τ).loc main_arg8)) (V m c main_v20) (V m c main_v3) (m ((c : Thread nD τ).loc main_arg7)) (row t p) q (lo q) := by
  refine (pay12_apply _ _ _ _ p q).trans ?_
  rw [dm_apply, ga_apply, blk2]
  rfl

theorem dzc_apply (c : Dev nD) (t : Fin cfg0.N) (p : Fin 512) (q : Fin 1024) :
    k0_pay13 (k0_pay8 (dx m c t) (wo m c t) (gc m c t) (iblk m c 3 t)) (ix2 p q)
      = DZ (m ((c : Thread nD τ).loc main_arg8)) (V m c main_v20) (V m c main_v7) (m ((c : Thread nD τ).loc main_arg7)) (row t p) q (hi q) := by
  refine (pay13_apply _ _ _ _ p q).trans ?_
  rw [dm_apply, gc_apply, blk3]
  rfl

theorem out8 (c : Dev nD) (t : Fin cfg0.N) (p : Fin 512) (q : Fin 2048) :
    (outsAt0 m c t.val t.isLt).1 (ix2 p q) = W8 (m ((c : Thread nD τ).loc main_arg8)) (V m c main_v20) (V m c main_v3) (V m c main_v7) (m ((c : Thread nD τ).loc main_arg7)) (ix2 (row t p) q) := by
  have key : (View.canon (Val := Elt Ideal) (s := S512x2048) (e := .bf16) [⟨Rect.unit ![0, 1024] ![512, 1024] inb_S512x2048_S512x1024_0_1024,
        k0_pay13 (k0_pay8 (dx m c t) (wo m c t) (gc m c t) (iblk m c 3 t))⟩,
      ⟨Rect.unit ![0, 0] ![512, 1024] inb_S512x2048_S512x1024_0_0,
        k0_pay12 (k0_pay7 (dx m c t) (wo m c t) (ga m c t) (iblk m c 2 t))⟩] : S512x2048.Idx → EReal) (ix2 p q) = W8 (m ((c : Thread nD τ).loc main_arg8)) (V m c main_v20) (V m c main_v3) (V m c main_v7) (m ((c : Thread nD τ).loc main_arg7)) (ix2 (row t p) q) := by
    refine View.canon_eq_of_allAt _ _ _ (View.cover_of_tiled_head _ _ _ rfl _)
      (View.allAt_cons_unit _ _ _ _ _ ?_ (View.allAt_cons_unit _ _ _ _ _ ?_ (View.allAt_nil _ _)))
    · intro x hx
      obtain ⟨a, b, rfl⟩ : ∃ (a : Fin 512) (b : Fin 1024), x = ix2 a b := ⟨x 0, x 1, eq_ix2 x⟩
      have h0 : p = a := Fin.ext ((hx 0).trans (Nat.zero_add _))
      have h1 : q = hi b := Fin.ext (hx 1)
      subst h0 h1
      refine (dzc_apply m c t p b).trans ?_
      unfold W8
      rw [dif_neg (by show ¬ 1024 + b.val < 1024; omega)]
      congr 1
      apply Fin.ext
      show b.val = 1024 + b.val - 1024
      omega
    · intro x hx
      obtain ⟨a, b, rfl⟩ : ∃ (a : Fin 512) (b : Fin 1024), x = ix2 a b := ⟨x 0, x 1, eq_ix2 x⟩
      have h0 : p = a := Fin.ext ((hx 0).trans (Nat.zero_add _))
      have h1 : q = lo b := Fin.ext ((hx 1).trans (Nat.zero_add _))
      subst h0 h1
      refine (dza_apply m c t p b).trans ?_
      unfold W8
      rw [dif_pos (by exact b.isLt)]
      rfl
  by_cases h : t.val % 8 = 0
  · rw [outsAt0_A m c t h]
    frame_out
    exact key
  · rw [outsAt0_B m c t h]
    frame_out
    exact key

theorem out9 (c : Dev nD) (t : Fin cfg0.N) (p : Fin 512) (q : Fin 1024) :
    (outsAt0 m c t.val t.isLt).2.1 (ix2 p q) = W9 (m ((c : Thread nD τ).loc main_arg8)) (V m c main_v20) (m ((c : Thread nD τ).loc main_arg7)) (ix2 (row t p) q) := by
  by_cases h : t.val % 8 = 0
  · rw [outsAt0_A m c t h]
    frame_out
    exact dya_apply m c t p q
  · rw [outsAt0_B m c t h]
    frame_out
    exact dya_apply m c t p q

theorem out10 (c : Dev nD) (t : Fin cfg0.N) (p : Fin 512) (q : Fin 1024) :
    (outsAt0 m c t.val t.isLt).2.2.1 (ix2 p q) = W10 (m ((c : Thread nD τ).loc main_arg8)) (V m c main_v20) (m ((c : Thread nD τ).loc main_arg7)) (ix2 (row t p) q) := by
  by_cases h : t.val % 8 = 0
  · rw [outsAt0_A m c t h]
    frame_out
    exact dyc_apply m c t p q
  · rw [outsAt0_B m c t h]
    frame_out
    exact dyc_apply m c t p q

theorem out11 (c : Dev nD) (t : Fin cfg0.N) (p : Fin 512) (q : Fin 1024) :
    (outsAt0 m c t.val t.isLt).2.2.2.1 (ix2 p q) = W11 (m ((c : Thread nD τ).loc main_arg8)) (V m c main_v20) (m ((c : Thread nD τ).loc main_arg7)) (m ((c : Thread nD τ).loc main_arg3)) (ix2 (row t p) q) := by
  by_cases h : t.val % 8 = 0
  · rw [outsAt0_A m c t h]
    frame_out
    exact (pay14_apply _ _ p q).trans (Finset.sum_congr rfl fun k _ => congrArg₂ (· * ·) (dya_apply m c t p k) (blk5 m c t q k))
  · rw [outsAt0_B m c t h]
    frame_out
    exact (pay14_apply _ _ p q).trans (Finset.sum_congr rfl fun k _ => congrArg₂ (· * ·) (dya_apply m c t p k) (blk5 m c t q k))

theorem out12 (c : Dev nD) (t : Fin cfg0.N) (p : Fin 512) (q : Fin 1024) :
    (outsAt0 m c t.val t.isLt).2.2.2.2.1 (ix2 p q) = W12 (m ((c : Thread nD τ).loc main_arg8)) (V m c main_v20) (m ((c : Thread nD τ).loc main_arg7)) (m ((c : Thread nD τ).loc main_arg4)) (ix2 (row t p) q) := by
  by_cases h : t.val % 8 = 0
  · rw [outsAt0_A m c t h]
    frame_out
    exact (pay15_apply _ _ p q).trans (Finset.sum_congr rfl fun k _ => congrArg₂ (· * ·) (dyc_apply m c t p k) (blk6 m c t q k))
  · rw [outsAt0_B m c t h]
    frame_out
    exact (pay15_apply _ _ p q).trans (Finset.sum_congr rfl fun k _ => congrArg₂ (· * ·) (dyc_apply m c t p k) (blk6 m c t q k))

theorem out13 (c : Dev nD) (t : Fin cfg0.N) (p : Fin 512) (q : Fin 1024) :
    (outsAt0 m c t.val t.isLt).2.2.2.2.2.1 (ix2 p q) = W13 (m ((c : Thread nD τ).loc main_arg8)) (V m c main_v20) (V m c main_v3) (V m c main_v7) (m ((c : Thread nD τ).loc main_arg7)) (m ((c : Thread nD τ).loc main_arg5)) (ix2 (row t p) q) := by
  by_cases h : t.val % 8 = 0
  · rw [outsAt0_A m c t h]
    frame_out
    exact (pay1_apply _ _ _ _ p q).trans (congrArg₂ (· + ·) (Finset.sum_congr rfl fun k _ => congrArg₂ (· * ·) (dza_apply m c t p k) (wa_apply m c t q k))
      (Finset.sum_congr rfl fun k _ => congrArg₂ (· * ·) (dzc_apply m c t p k) (wc_apply m c t q k)))
  · rw [outsAt0_B m c t h]
    frame_out
    exact (pay1_apply _ _ _ _ p q).trans (congrArg₂ (· + ·) (Finset.sum_congr rfl fun k _ => congrArg₂ (· * ·) (dza_apply m c t p k) (wa_apply m c t q k))
      (Finset.sum_congr rfl fun k _ => congrArg₂ (· * ·) (dzc_apply m c t p k) (wc_apply m c t q k)))

/-! ## The result arrays -/

theorem final8 (c : Dev nD) : (dats m 0 c).arrAt 8 cfg0.N = W8 (m ((c : Thread nD τ).loc main_arg8)) (V m c main_v20) (V m c main_v3) (V m c main_v7) (m ((c : Thread nD τ).loc main_arg7)) := by
  refine (dats m 0 c).arrAt_eq_of_covers 8 _ (by decide +kernel) fun t hf y => ?_
  obtain ⟨p, q, rfl⟩ : ∃ (p : Fin 512) (q : Fin 2048), y = ix2 p q := ⟨y 0, y 1, eq_ix2 y⟩
  have e : ((View.whole main_v21_0).slice (win0_8.rect t)).emb (ix2 p q) = ix2 (row t p) q := by
    funext a
    apply Fin.ext
    match a with
    | ⟨0, _⟩ => show win0_8.index t 0 * 512 + 1 * p.val = t.val * 512 + p.val; rw [idx8]; simp
    | ⟨1, _⟩ => show win0_8.index t 1 * 2048 + 1 * q.val = q.val; rw [idx8]; simp
  blk_simp
  rw [after0_8]
  exact (out8 m c t p q).trans (congrArg (W8 (m ((c : Thread nD τ).loc main_arg8)) (V m c main_v20) (V m c main_v3) (V m c main_v7) (m ((c : Thread nD τ).loc main_arg7))) e).symm

theorem final9 (c : Dev nD) : (dats m 0 c).arrAt 9 cfg0.N = W9 (m ((c : Thread nD τ).loc main_arg8)) (V m c main_v20) (m ((c : Thread nD τ).loc main_arg7)) := by
  refine (dats m 0 c).arrAt_eq_of_covers 9 _ (by decide +kernel) fun t hf y => ?_
  obtain ⟨p, q, rfl⟩ : ∃ (p : Fin 512) (q : Fin 1024), y = ix2 p q := ⟨y 0, y 1, eq_ix2 y⟩
  have e : ((View.whole main_v21_1).slice (win0_9.rect t)).emb (ix2 p q) = ix2 (row t p) q := by
    funext a
    apply Fin.ext
    match a with
    | ⟨0, _⟩ => show win0_9.index t 0 * 512 + 1 * p.val = t.val * 512 + p.val; rw [idx9]; simp
    | ⟨1, _⟩ => show win0_9.index t 1 * 1024 + 1 * q.val = q.val; rw [idx9]; simp
  blk_simp
  rw [after0_9]
  exact (out9 m c t p q).trans (congrArg (W9 (m ((c : Thread nD τ).loc main_arg8)) (V m c main_v20) (m ((c : Thread nD τ).loc main_arg7))) e).symm

theorem final10 (c : Dev nD) : (dats m 0 c).arrAt 10 cfg0.N = W10 (m ((c : Thread nD τ).loc main_arg8)) (V m c main_v20) (m ((c : Thread nD τ).loc main_arg7)) := by
  refine (dats m 0 c).arrAt_eq_of_covers 10 _ (by decide +kernel) fun t hf y => ?_
  obtain ⟨p, q, rfl⟩ : ∃ (p : Fin 512) (q : Fin 1024), y = ix2 p q := ⟨y 0, y 1, eq_ix2 y⟩
  have e : ((View.whole main_v21_2).slice (win0_10.rect t)).emb (ix2 p q) = ix2 (row t p) q := by
    funext a
    apply Fin.ext
    match a with
    | ⟨0, _⟩ => show win0_10.index t 0 * 512 + 1 * p.val = t.val * 512 + p.val; rw [idx10]; simp
    | ⟨1, _⟩ => show win0_10.index t 1 * 1024 + 1 * q.val = q.val; rw [idx10]; simp
  blk_simp
  rw [after0_10]
  exact (out10 m c t p q).trans (congrArg (W10 (m ((c : Thread nD τ).loc main_arg8)) (V m c main_v20) (m ((c : Thread nD τ).loc main_arg7))) e).symm

theorem final11 (c : Dev nD) : (dats m 0 c).arrAt 11 cfg0.N = W11 (m ((c : Thread nD τ).loc main_arg8)) (V m c main_v20) (m ((c : Thread nD τ).loc main_arg7)) (m ((c : Thread nD τ).loc main_arg3)) := by
  refine (dats m 0 c).arrAt_eq_of_covers 11 _ (by decide +kernel) fun t hf y => ?_
  obtain ⟨p, q, rfl⟩ : ∃ (p : Fin 512) (q : Fin 1024), y = ix2 p q := ⟨y 0, y 1, eq_ix2 y⟩
  have e : ((View.whole main_v21_3).slice (win0_11.rect t)).emb (ix2 p q) = ix2 (row t p) q := by
    funext a
    apply Fin.ext
    match a with
    | ⟨0, _⟩ => show win0_11.index t 0 * 512 + 1 * p.val = t.val * 512 + p.val; rw [idx11]; simp
    | ⟨1, _⟩ => show win0_11.index t 1 * 1024 + 1 * q.val = q.val; rw [idx11]; simp
  blk_simp
  rw [after0_11]
  exact (out11 m c t p q).trans (congrArg (W11 (m ((c : Thread nD τ).loc main_arg8)) (V m c main_v20) (m ((c : Thread nD τ).loc main_arg7)) (m ((c : Thread nD τ).loc main_arg3))) e).symm

theorem final12 (c : Dev nD) : (dats m 0 c).arrAt 12 cfg0.N = W12 (m ((c : Thread nD τ).loc main_arg8)) (V m c main_v20) (m ((c : Thread nD τ).loc main_arg7)) (m ((c : Thread nD τ).loc main_arg4)) := by
  refine (dats m 0 c).arrAt_eq_of_covers 12 _ (by decide +kernel) fun t hf y => ?_
  obtain ⟨p, q, rfl⟩ : ∃ (p : Fin 512) (q : Fin 1024), y = ix2 p q := ⟨y 0, y 1, eq_ix2 y⟩
  have e : ((View.whole main_v21_4).slice (win0_12.rect t)).emb (ix2 p q) = ix2 (row t p) q := by
    funext a
    apply Fin.ext
    match a with
    | ⟨0, _⟩ => show win0_12.index t 0 * 512 + 1 * p.val = t.val * 512 + p.val; rw [idx12]; simp
    | ⟨1, _⟩ => show win0_12.index t 1 * 1024 + 1 * q.val = q.val; rw [idx12]; simp
  blk_simp
  rw [after0_12]
  exact (out12 m c t p q).trans (congrArg (W12 (m ((c : Thread nD τ).loc main_arg8)) (V m c main_v20) (m ((c : Thread nD τ).loc main_arg7)) (m ((c : Thread nD τ).loc main_arg4))) e).symm

theorem final13 (c : Dev nD) : (dats m 0 c).arrAt 13 cfg0.N = W13 (m ((c : Thread nD τ).loc main_arg8)) (V m c main_v20) (V m c main_v3) (V m c main_v7) (m ((c : Thread nD τ).loc main_arg7)) (m ((c : Thread nD τ).loc main_arg5)) := by
  refine (dats m 0 c).arrAt_eq_of_covers 13 _ (by decide +kernel) fun t hf y => ?_
  obtain ⟨p, q, rfl⟩ : ∃ (p : Fin 512) (q : Fin 1024), y = ix2 p q := ⟨y 0, y 1, eq_ix2 y⟩
  have e : ((View.whole main_v21_5).slice (win0_13.rect t)).emb (ix2 p q) = ix2 (row t p) q := by
    funext a
    apply Fin.ext
    match a with
    | ⟨0, _⟩ => show win0_13.index t 0 * 512 + 1 * p.val = t.val * 512 + p.val; rw [idx13]; simp
    | ⟨1, _⟩ => show win0_13.index t 1 * 1024 + 1 * q.val = q.val; rw [idx13]; simp
  blk_simp
  rw [after0_13]
  exact (out13 m c t p q).trans (congrArg (W13 (m ((c : Thread nD τ).loc main_arg8)) (V m c main_v20) (V m c main_v3) (V m c main_v7) (m ((c : Thread nD τ).loc main_arg7)) (m ((c : Thread nD τ).loc main_arg5))) e).symm

end Cert.MixKernelIdeal.Hand
end
-- ==== Proof.MixVal.lean ====
/-
  The gradient of the gated merge: the kernel call and the reference compute the same.
-/
module

public import proofs.«01_k».proof.Defs
public import proofs.«01_k».proof.Proof.MixKer
public import proofs.«01_k».proof.Proof.Gen.MixReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MixKernelIdeal.Hand

open Cert.MixKernelIdeal Cert.MixKernelIdeal.Gen

/-- A branch's projection and the two gates, as the host code computes them. -/
def proj (y : FVec Ideal S4096x1024 .bf16) (w : FVec Ideal S1024x1024 .bf16) : FVec Ideal S4096x1024 .f32 :=
  Host.dotGeneral dot_S4096x1024_S1024x1024_S4096x1024_1_0_0_1_n_n none (extf .f32 (y) bitsLt_bf16_f32) (extf .f32 (w) bitsLt_bf16_f32)
def gates (h : FVec Ideal S4096x1024 .bf16) (wg : FVec Ideal S1024x2048 .bf16) (b : FVec Ideal S2048 .f32) : FVec Ideal S4096x2048 .f32 :=
  Host.divf (broadcastInDim S4096x2048 ![] bcast_S_S4096x2048 (constant S_ .f32 0x3F800000#32)) (addf (broadcastInDim S4096x2048 ![] bcast_S_S4096x2048 (constant S_ .f32 0x3F800000#32)) (Host.exp (Host.negf (addf (Host.dotGeneral dot_S4096x1024_S1024x2048_S4096x2048_1_0_0_1_n_n none (extf .f32 h bitsLt_bf16_f32) (extf .f32 wg bitsLt_bf16_f32)) (broadcastInDim S4096x2048 ![0, 1] bcast_S1x2048_S4096x2048_0_1 (broadcastInDim S1x2048 ![1] bcast_S2048_S1x2048_1 b))))))

variable (m : (ℓ : Loc nD τ sig) → Buf (Elt Ideal) ℓ)

theorem V3 (c : Dev nD) : V m c main_v3 = truncf .bf16 (proj (m ((c : Thread nD τ).loc main_arg1)) (m ((c : Thread nD τ).loc main_arg3))) bitsLt_bf16_f32 := by
  unfold proj
  show StableHlo.after (hostOps0 (F := Ideal)) (fun b => m (c, b)) main_v3 = _
  simp only [hostOps0, StableHlo.TRef.binary, StableHlo.TRef.nullary, StableHlo.TRef.unary, StableHlo.TRef.toBuf, StableHlo.TRef.ofBuf, cast_eq]
  after_results

theorem V7 (c : Dev nD) : V m c main_v7 = truncf .bf16 (proj (m ((c : Thread nD τ).loc main_arg2)) (m ((c : Thread nD τ).loc main_arg4))) bitsLt_bf16_f32 := by
  unfold proj
  show StableHlo.after (hostOps0 (F := Ideal)) (fun b => m (c, b)) main_v7 = _
  simp only [hostOps0, StableHlo.TRef.binary, StableHlo.TRef.nullary, StableHlo.TRef.unary, StableHlo.TRef.toBuf, StableHlo.TRef.ofBuf, cast_eq]
  after_results

theorem V20 (c : Dev nD) : V m c main_v20 = truncf .bf16 (gates (m ((c : Thread nD τ).loc main_arg0)) (m ((c : Thread nD τ).loc main_arg5)) (m ((c : Thread nD τ).loc main_arg6))) bitsLt_bf16_f32 := by
  unfold gates
  show StableHlo.after (hostOps0 (F := Ideal)) (fun b => m (c, b)) main_v20 = _
  simp only [hostOps0, StableHlo.TRef.binary, StableHlo.TRef.nullary, StableHlo.TRef.unary, StableHlo.TRef.toBuf, StableHlo.TRef.ofBuf, cast_eq]
  after_results

end Cert.MixKernelIdeal.Hand

/-! ## The reference's terms, at an index, over any projections and gates -/

namespace Cert.MixReferenceIdeal.Hand

open Cert.MixReferenceIdeal Cert.MixReferenceIdeal.Gen
open Cert.MixKernelIdeal.Hand (DM DY DZ W8 W9 W10 W11 W12 W13 lo hi)

variable (dx : FVec Ideal S4096x1024 .bf16) (wo wp : FVec Ideal S1024x1024 .bf16) (G : FVec Ideal S4096x2048 .f32)
  (Ya Yc : FVec Ideal S4096x1024 .f32) (wg : FVec Ideal S1024x2048 .bf16)

abbrev dm : FVec Ideal S4096x1024 .f32 := Host.dotGeneral dot_S4096x1024_S1024x1024_S4096x1024_1_1_0_0_n_n none (extf .f32 dx bitsLt_bf16_f32) (extf .f32 wo bitsLt_bf16_f32)
abbrev dya : FVec Ideal S4096x1024 .f32 := mulf (extractStridedSlice S4096x1024 ![0, 0] G slices_S4096x2048_S4096x1024_0_0) (dm dx wo)
abbrev dyc : FVec Ideal S4096x1024 .f32 := mulf (extractStridedSlice S4096x1024 ![0, 1024] G slices_S4096x2048_S4096x1024_0_1024) (dm dx wo)
abbrev dz : FVec Ideal S4096x2048 .f32 :=
  mulf (concatenate S4096x2048 1 [⟨S4096x1024, mulf (dm dx wo) Ya⟩, ⟨S4096x1024, mulf (dm dx wo) Yc⟩] concatenates_S4096x1024_S4096x1024_S4096x2048_d1)
    (mulf G (subf (broadcastInDim S4096x2048 ![] bcast_S_S4096x2048 (constant S_ .f32 0x3F800000#32)) G))

theorem dm_apply (i : Fin 4096) (j : Fin 1024) : dm dx wo (ix2 i j) = DM dx wo i j := by
  unfold DM
  pointwise

theorem dya_apply (i : Fin 4096) (j : Fin 1024) : dya dx wo G (ix2 i j) = DY dx G wo i j (lo j) := by
  unfold DY DM
  pointwise
  exact mul_comm (G := EReal) _ _

theorem dyc_apply (i : Fin 4096) (j : Fin 1024) : dyc dx wo G (ix2 i j) = DY dx G wo i j (hi j) := by
  unfold DY DM
  pointwise
  exact mul_comm (G := EReal) _ _

theorem dz_apply (i : Fin 4096) (j : Fin 2048) : dz dx wo G Ya Yc (ix2 i j) = W8 dx G Ya Yc wo (ix2 i j) := by
  unfold W8 DZ DM
  pointwise
  split
  · exact (mul_assoc (G := EReal) _ _ _).symm
  · exact (mul_assoc (G := EReal) _ _ _).symm

/-- The two products with a transposed weight. -/
theorem dot_apply (d : FVec Ideal S4096x1024 .f32) (i : Fin 4096) (j : Fin 1024) :
    (Host.dotGeneral dot_S4096x1024_S1024x1024_S4096x1024_1_1_0_0_n_n none d (extf .f32 wp bitsLt_bf16_f32) : FVec Ideal S4096x1024 .f32) (ix2 i j) = ∑ k : Fin 1024, d (ix2 i k) * wp (ix2 j k) := by
  pointwise

theorem dotg_apply (d : FVec Ideal S4096x2048 .f32) (i : Fin 4096) (j : Fin 1024) :
    (Host.dotGeneral dot_S4096x2048_S1024x2048_S4096x1024_1_1_0_0_n_n none d (extf .f32 wg bitsLt_bf16_f32) : FVec Ideal S4096x1024 .f32) (ix2 i j) = ∑ k : Fin 2048, d (ix2 i k) * wg (ix2 j k) := by
  pointwise

/-- The reference's six results. -/
theorem res8 : truncf .bf16 (dz dx wo G Ya Yc) bitsLt_bf16_f32
    = W8 dx (truncf .bf16 G bitsLt_bf16_f32) (truncf .bf16 Ya bitsLt_bf16_f32) (truncf .bf16 Yc bitsLt_bf16_f32) wo := by
  funext y
  obtain ⟨i, j, rfl⟩ : ∃ (i : Fin 4096) (j : Fin 2048), y = ix2 i j := ⟨y 0, y 1, eq_ix2 y⟩
  exact dz_apply dx wo G Ya Yc i j

theorem res9 : truncf .bf16 (dya dx wo G) bitsLt_bf16_f32 = W9 dx (truncf .bf16 G bitsLt_bf16_f32) wo := by
  funext y
  obtain ⟨i, j, rfl⟩ : ∃ (i : Fin 4096) (j : Fin 1024), y = ix2 i j := ⟨y 0, y 1, eq_ix2 y⟩
  exact dya_apply dx wo G i j

theorem res10 : truncf .bf16 (dyc dx wo G) bitsLt_bf16_f32 = W10 dx (truncf .bf16 G bitsLt_bf16_f32) wo := by
  funext y
  obtain ⟨i, j, rfl⟩ : ∃ (i : Fin 4096) (j : Fin 1024), y = ix2 i j := ⟨y 0, y 1, eq_ix2 y⟩
  exact dyc_apply dx wo G i j

theorem res11 : truncf .bf16 (Host.dotGeneral dot_S4096x1024_S1024x1024_S4096x1024_1_1_0_0_n_n none (dya dx wo G) (extf .f32 wp bitsLt_bf16_f32)) bitsLt_bf16_f32
    = W11 dx (truncf .bf16 G bitsLt_bf16_f32) wo wp := by
  funext y
  obtain ⟨i, j, rfl⟩ : ∃ (i : Fin 4096) (j : Fin 1024), y = ix2 i j := ⟨y 0, y 1, eq_ix2 y⟩
  exact (dot_apply wp (dya dx wo G) i j).trans (Finset.sum_congr rfl fun k _ => congrArg (· * _) (dya_apply dx wo G i k))

theorem res12 : truncf .bf16 (Host.dotGeneral dot_S4096x1024_S1024x1024_S4096x1024_1_1_0_0_n_n none (dyc dx wo G) (extf .f32 wp bitsLt_bf16_f32)) bitsLt_bf16_f32
    = W12 dx (truncf .bf16 G bitsLt_bf16_f32) wo wp := by
  funext y
  obtain ⟨i, j, rfl⟩ : ∃ (i : Fin 4096) (j : Fin 1024), y = ix2 i j := ⟨y 0, y 1, eq_ix2 y⟩
  exact (dot_apply wp (dyc dx wo G) i j).trans (Finset.sum_congr rfl fun k _ => congrArg (· * _) (dyc_apply dx wo G i k))

theorem res13 : Host.dotGeneral dot_S4096x2048_S1024x2048_S4096x1024_1_1_0_0_n_n none (dz dx wo G Ya Yc) (extf .f32 wg bitsLt_bf16_f32)
    = W13 dx (truncf .bf16 G bitsLt_bf16_f32) (truncf .bf16 Ya bitsLt_bf16_f32) (truncf .bf16 Yc bitsLt_bf16_f32) wo wg := by
  funext y
  obtain ⟨i, j, rfl⟩ : ∃ (i : Fin 4096) (j : Fin 1024), y = ix2 i j := ⟨y 0, y 1, eq_ix2 y⟩
  refine (dotg_apply wg (dz dx wo G Ya Yc) i j).trans ?_
  rw [Fin.sum_univ_two_halves 1024 1024 rfl]
  refine congrArg₂ (· + ·) (Finset.sum_congr rfl fun k _ => congrArg (· * _) ((dz_apply dx wo G Ya Yc i (lo k)).trans ?_))
    (Finset.sum_congr rfl fun k _ => congrArg (· * _) ((dz_apply dx wo G Ya Yc i (hi k)).trans ?_))
  · unfold W8
    rw [dif_pos (by exact k.isLt)]
    rfl
  · unfold W8
    rw [dif_neg (by show ¬ 1024 + k.val < 1024; omega)]
    have e : (⟨1024 + k.val - 1024, by have := k.isLt; omega⟩ : Fin 1024) = k := Fin.ext (by show 1024 + k.val - 1024 = k.val; omega)
    exact congrArg (fun j => DZ dx G Yc wo i j (hi k)) e

end Cert.MixReferenceIdeal.Hand

namespace Cert.Proof.Mix

open Cert.MixKernelIdeal.Hand Cert.MixReferenceIdeal.Hand

theorem algebraic : Cert.algebraic_MixKernelIdeal_MixReferenceIdeal := by
  intro m ρ m' ρ' _ hagree
  refine ⟨_, _, _, _, _, _, (θ_run Cert.MixKernelIdeal.defs _ _).mono (fun _ h c =>
      ⟨(h c).1.trans (final8 m c), (h c).2.1.trans (final9 m c), (h c).2.2.1.trans (final10 m c), (h c).2.2.2.1.trans (final11 m c),
        (h c).2.2.2.2.1.trans (final12 m c), (h c).2.2.2.2.2.1.trans (final13 m c), (h c).2.2.2.2.2.2.2⟩)
    (Cert.MixKernelIdeal.Value.run_blocks (F := Ideal) m ρ), ?_⟩
  refine (θ_run Cert.MixReferenceIdeal.defs _ _).mono (fun _ h c => ?_) (Cert.MixReferenceIdeal.Value.run (F := Ideal) m' ρ')
  obtain ⟨h1, h2, h3, h4, h5, h6, hargs⟩ := h c
  obtain ⟨a0, a1, a2, a3, a4, a5, a6, a7, a8⟩ := hagree c
  rw [V3, V7, V20]
  rw [a0, a1, a2, a3, a4, a5, a6, a7, a8] at h1 h6
  rw [a0, a5, a6, a7, a8] at h2 h3
  rw [a0, a3, a5, a6, a7, a8] at h4
  rw [a0, a4, a5, a6, a7, a8] at h5
  exact ⟨h1.trans (res8 _ _ _ _ _), h2.trans (res9 _ _ _), h3.trans (res10 _ _ _), h4.trans (res11 _ _ _ _), h5.trans (res12 _ _ _ _),
    h6.trans (res13 _ _ _ _ _ _), hargs⟩

end Cert.Proof.Mix
end
-- ==== Proof.DownVal.lean ====
/-
  The weight gradient of the MLP's down projection: the value of the kernel call and of the reference.
-/
module

public import proofs.«01_k».proof.Defs
public import proofs.«01_k».proof.Proof.Gen.DownKernelIdeal.Value
public import proofs.«01_k».proof.Proof.Gen.DownReferenceIdeal.Run
public import Idealize.ShloMosaic.Lib.Pointwise
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.DownKernelIdeal.Hand

open Cert.DownKernelIdeal Cert.DownKernelIdeal.Gen

/-- One output block at an index: the sum over all tokens of the squared, clipped left entry times the right entry. -/
theorem pay_apply (x0 x1 : Vec Ideal S4096x1024 .bf16) (p : Fin 1024) (q : Fin 1024) :
    k0_pay3 (k0_pay2 x0 (k0_pay1 (F := Ideal)) x1) (ix2 p q)
      = ∑ k : Fin 4096, (max (x0 (ix2 k p)) 0 * max (x0 (ix2 k p)) 0) * x1 (ix2 k q) := by
  unfold_payloads
  pointwise

/-- The gradient: the squared, clipped activations, transposed, times the incoming gradient. -/
def W (a : S4096x4096.Idx → EReal) (d : S4096x1024.Idx → EReal) : S4096x1024.Idx → EReal := fun i =>
  ∑ k : Fin 4096, (max (a (ix2 k (i 0))) 0 * max (a (ix2 k (i 0))) 0) * d (ix2 k (i 1))

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

variable (m : (ℓ : Loc nD τ sig) → Buf (Elt Ideal) ℓ) (ρ : Dev nD → PrngReg)

/-- A staged block of the activations: one thousand and twenty-four of the columns. -/
theorem blk0 (c : Dev nD) (t : Fin cfg0.N) (k : Fin 4096) (p : Fin 1024) (i : S4096x4096.Idx)
    (h0 : (i 0).val = k.val) (h1 : (i 1).val = t.val * 1024 + p.val) :
    iblk m c 0 t (ix2 k p) = m ((c : Thread nD τ).loc main_arg0) i := by
  unfold iblk
  rw [View.read_apply]
  show V m c main_arg0 _ = _
  rw [V_main_arg0]
  congr 1
  funext a
  apply Fin.ext
  match a with
  | ⟨0, _⟩ => show win0_0.index t 0 * 4096 + 1 * k.val = (i 0).val; rw [idx0, h0]; simp
  | ⟨1, _⟩ => show win0_0.index t 1 * 1024 + 1 * p.val = (i 1).val; rw [idx0, h1]; simp

/-- The staged incoming gradient: all of it. -/
theorem blk1 (c : Dev nD) (t : Fin cfg0.N) (k : Fin 4096) (q : Fin 1024) (i : S4096x1024.Idx)
    (h0 : (i 0).val = k.val) (h1 : (i 1).val = q.val) :
    iblk m c 1 t (ix2 k q) = m ((c : Thread nD τ).loc main_arg1) i := by
  unfold iblk
  rw [View.read_apply]
  show V m c main_arg1 _ = _
  rw [V_main_arg1]
  congr 1
  funext a
  apply Fin.ext
  match a with
  | ⟨0, _⟩ => show win0_1.index t 0 * 4096 + 1 * k.val = (i 0).val; rw [idx1, h0]; simp
  | ⟨1, _⟩ => show win0_1.index t 1 * 1024 + 1 * q.val = (i 1).val; rw [idx1, h1]; simp

/-- The result array after the run is the gradient. -/
theorem final (c : Dev nD) : (dats m 0 c).arrAt 2 cfg0.N
    = W (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  obtain ⟨p, q, rfl⟩ : ∃ (p : Fin 1024) (q : Fin 1024), y = ix2 p q := ⟨y 0, y 1, eq_ix2 y⟩
  refine (pay_apply _ _ p q).trans ?_
  have e0 : ((((View.whole main_v0).slice (win0_2.rect t)).emb (ix2 p q)) 0).val = t.val * 1024 + p.val := by
    show win0_2.index t 0 * 1024 + 1 * p.val = _; rw [idx2]; simp
  have e1 : ((((View.whole main_v0).slice (win0_2.rect t)).emb (ix2 p q)) 1).val = q.val := by
    show win0_2.index t 1 * 1024 + 1 * q.val = _; rw [idx2]; simp
  unfold W
  refine Finset.sum_congr rfl fun k _ => ?_
  rw [blk0 m c t k p (ix2 k _) rfl e0, blk1 m c t k q (ix2 k _) rfl e1]

end Cert.DownKernelIdeal.Hand

namespace Cert.Proof.Down

theorem algebraic : Cert.algebraic_DownKernelIdeal_DownReferenceIdeal := by
  intro m ρ m' ρ' _ hagree
  refine ⟨fun c => Cert.DownKernelIdeal.Hand.W (m ((c.tc : Thread _ _).loc Cert.DownKernelIdeal.main_arg0)) (m ((c.tc : Thread _ _).loc Cert.DownKernelIdeal.main_arg1)),
    (θ_run Cert.DownKernelIdeal.defs _ _).mono (fun _ h c => ⟨(h c).1.trans (Cert.DownKernelIdeal.Hand.final m c), (h c).2⟩)
      (Cert.DownKernelIdeal.Value.run_blocks (F := Ideal) m ρ), ?_⟩
  refine (θ_run Cert.DownReferenceIdeal.defs _ _).mono (fun _ h c => ⟨(h c).1.trans ?_, (h c).2⟩) (Cert.DownReferenceIdeal.Value.run (F := Ideal) m' ρ')
  rw [(hagree c).1, (hagree c).2]
  funext i
  unfold Cert.DownKernelIdeal.Hand.W
  pointwise
  refine Finset.sum_congr rfl fun k _ => ?_
  exact mul_comm (G := EReal) _ _

end Cert.Proof.Down
end
-- ==== Proof.UpVal.lean ====
/-
  The weight gradient of the MLP's up projection: the value of the kernel call and of the reference.
-/
module

public import proofs.«01_k».proof.Defs
public import proofs.«01_k».proof.Proof.Gen.UpKernelIdeal.Value
public import proofs.«01_k».proof.Proof.Gen.UpReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.UpKernelIdeal.Hand

open Cert.UpKernelIdeal Cert.UpKernelIdeal.Gen

/-- One output block at an index: the two halves of the tokens, each a sum of products, added in turn to zero. -/
theorem pay_apply (x0 x1 y0 y1 : Vec Ideal S2048x1024 .bf16) (p : Fin 1024) (q : Fin 1024) :
    k0_pay3 (k0_pay2 y0 (k0_pay2 x0 (k0_pay1 (F := Ideal)) x1) y1) (ix2 p q)
      = (∑ k : Fin 2048, x0 (ix2 k p) * x1 (ix2 k q)) + ∑ k : Fin 2048, y0 (ix2 k p) * y1 (ix2 k q) := by
  unfold_payloads
  pointwise

/-- The gradient: the inputs, transposed, times the incoming gradient. -/
def W (a : S4096x1024.Idx → EReal) (d : S4096x4096.Idx → EReal) : S1024x4096.Idx → EReal := fun i =>
  ∑ k : Fin 4096, a (ix2 k (i 0)) * d (ix2 k (i 1))

theorem idx0 : ∀ t : Fin cfg0.N, win0_0.index t = ![t.val % 2, 0] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![0, t.val / 2] := (by decide +kernel : ∀ t : Fin grid0.N, _)

variable (m : (ℓ : Loc nD τ sig) → Buf (Elt Ideal) ℓ) (ρ : Dev nD → PrngReg)

/-- A staged block of the inputs: one half of the tokens. -/
theorem blk0 (c : Dev nD) (t : Fin cfg0.N) (k : Fin 2048) (p : Fin 1024) (i : S4096x1024.Idx)
    (h0 : (i 0).val = t.val % 2 * 2048 + k.val) (h1 : (i 1).val = p.val) :
    iblk m c 0 t (ix2 k p) = m ((c : Thread nD τ).loc main_arg0) i := by
  unfold iblk
  rw [View.read_apply]
  show V m c main_arg0 _ = _
  rw [V_main_arg0]
  congr 1
  funext a
  apply Fin.ext
  match a with
  | ⟨0, _⟩ => show win0_0.index t 0 * 2048 + 1 * k.val = (i 0).val; rw [idx0, h0]; simp
  | ⟨1, _⟩ => show win0_0.index t 1 * 1024 + 1 * p.val = (i 1).val; rw [idx0, h1]; simp

/-- A staged block of the incoming gradient: one half of the tokens, a quarter of the columns. -/
theorem blk1 (c : Dev nD) (t : Fin cfg0.N) (k : Fin 2048) (q : Fin 1024) (i : S4096x4096.Idx)
    (h0 : (i 0).val = t.val % 2 * 2048 + k.val) (h1 : (i 1).val = t.val / 2 * 1024 + q.val) :
    iblk m c 1 t (ix2 k q) = m ((c : Thread nD τ).loc main_arg1) i := by
  unfold iblk
  rw [View.read_apply]
  show V m c main_arg1 _ = _
  rw [V_main_arg1]
  congr 1
  funext a
  apply Fin.ext
  match a with
  | ⟨0, _⟩ => show win0_1.index t 0 * 2048 + 1 * k.val = (i 0).val; rw [idx1, h0]; simp
  | ⟨1, _⟩ => show win0_1.index t 1 * 1024 + 1 * q.val = (i 1).val; rw [idx1, h1]; simp

/-- What the first of a block's two points leaves in the accumulator. -/
theorem acc_even (c : Dev nD) (t : Fin cfg0.N) (h : t.val % 2 = 0) :
    (outsAt0 m c t.val t.isLt).2 = k0_pay2 (iblk m c 0 t) (k0_pay1 (F := Ideal)) (iblk m c 1 t) := by
  rw [outsAt0_A m c t h (by omega)]
  frame_out

/-- The result array after the run is the gradient. -/
theorem final (c : Dev nD) : (dats m 0 c).arrAt 2 cfg0.N
    = W (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hlt : t.val - 1 < cfg0.N := Nat.lt_of_le_of_lt (Nat.sub_le _ _) t.isLt
  have hs := acc_even m c ⟨t.val - 1, hlt⟩ (by show (t.val - 1) % 2 = 0; omega)
  blk_simp
  rw [after0_2, outsAt0_B m c t (by omega) h1]
  frame_out
  simp only [hs, read_unread_whole]
  obtain ⟨p, q, rfl⟩ : ∃ (p : Fin 1024) (q : Fin 1024), y = ix2 p q := ⟨y 0, y 1, eq_ix2 y⟩
  refine (pay_apply _ _ _ _ p q).trans ?_
  have e0 : ((((View.whole main_v0).slice (win0_2.rect t)).emb (ix2 p q)) 0).val = p.val := by
    show win0_2.index t 0 * 1024 + 1 * p.val = _; rw [idx2]; simp
  have e1 : ((((View.whole main_v0).slice (win0_2.rect t)).emb (ix2 p q)) 1).val = t.val / 2 * 1024 + q.val := by
    show win0_2.index t 1 * 1024 + 1 * q.val = _; rw [idx2]; simp
  unfold W
  rw [Fin.sum_univ_two_halves 2048 2048 rfl]
  have d1 : (t.val - 1) % 2 = 0 := by omega
  have d2 : (t.val - 1) / 2 = t.val / 2 := by omega
  congr 1
  · refine Finset.sum_congr rfl fun k _ => ?_
    have hk := k.isLt
    rw [blk0 m c ⟨t.val - 1, hlt⟩ k p (ix2 ⟨k.val, by omega⟩ _) (by simp [d1]) e0, blk1 m c ⟨t.val - 1, hlt⟩ k q (ix2 ⟨k.val, by omega⟩ _) (by simp [d1]) (by rw [d2]; exact e1)]
  · refine Finset.sum_congr rfl fun k _ => ?_
    have hk := k.isLt
    rw [blk0 m c t k p (ix2 ⟨2048 + k.val, by omega⟩ _) (by simp [h1]) e0, blk1 m c t k q (ix2 ⟨2048 + k.val, by omega⟩ _) (by simp [h1]) e1]

end Cert.UpKernelIdeal.Hand

namespace Cert.Proof.Up

theorem algebraic : Cert.algebraic_UpKernelIdeal_UpReferenceIdeal := by
  intro m ρ m' ρ' _ hagree
  refine ⟨fun c => Cert.UpKernelIdeal.Hand.W (m ((c.tc : Thread _ _).loc Cert.UpKernelIdeal.main_arg0)) (m ((c.tc : Thread _ _).loc Cert.UpKernelIdeal.main_arg1)),
    (θ_run Cert.UpKernelIdeal.defs _ _).mono (fun _ h c => ⟨(h c).1.trans (Cert.UpKernelIdeal.Hand.final m c), (h c).2⟩)
      (Cert.UpKernelIdeal.Value.run_blocks (F := Ideal) m ρ), ?_⟩
  refine (θ_run Cert.UpReferenceIdeal.defs _ _).mono (fun _ h c => ⟨(h c).1.trans ?_, (h c).2⟩) (Cert.UpReferenceIdeal.Value.run (F := Ideal) m' ρ')
  rw [(hagree c).1, (hagree c).2]
  funext i
  unfold Cert.UpKernelIdeal.Hand.W
  pointwise
  refine Finset.sum_congr rfl fun k _ => ?_
  exact mul_comm (G := EReal) _ _

end Cert.Proof.Up
end
-- ==== Proof.InVal.lean ====
/-
  The weight gradient of the input projections (query and key, value, convolution): the value of the kernel call and of the reference.
-/
module

public import proofs.«01_k».proof.Defs
public import proofs.«01_k».proof.Proof.Gen.InKernelIdeal.Value
public import proofs.«01_k».proof.Proof.Gen.InReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.InKernelIdeal.Hand

open Cert.InKernelIdeal Cert.InKernelIdeal.Gen

/-- One output block at an index: the two halves of the tokens, each a sum of products, added in turn to zero. -/
theorem pay_apply (x0 x1 y0 y1 : Vec Ideal S2048x1024 .bf16) (p : Fin 1024) (q : Fin 1024) :
    k0_pay5 (k0_pay2 y0 (k0_pay2 x0 (k0_pay1 (F := Ideal)) x1) y1) (ix2 p q)
      = (∑ k : Fin 2048, x0 (ix2 k p) * x1 (ix2 k q)) + ∑ k : Fin 2048, y0 (ix2 k p) * y1 (ix2 k q) := by
  unfold_payloads
  pointwise

/-- The three incoming gradients side by side: 2048, 1024 and 3072 columns. -/
def D (d1 : S4096x2048.Idx → EReal) (d2 : S4096x1024.Idx → EReal) (d3 : S4096x3072.Idx → EReal) (k : Fin 4096) (j : Fin 6144) : EReal :=
  if h : j.val < 2048 then d1 (ix2 k ⟨j.val, h⟩) else if h' : j.val - 2048 < 1024 then d2 (ix2 k ⟨j.val - 2048, h'⟩)
  else d3 (ix2 k ⟨j.val - 2048 - 1024, by have := j.isLt; omega⟩)

/-- The gradient: the inputs, transposed, times the incoming gradients. -/
def W (a : S4096x1024.Idx → EReal) (d1 : S4096x2048.Idx → EReal) (d2 : S4096x1024.Idx → EReal) (d3 : S4096x3072.Idx → EReal) : S1024x6144.Idx → EReal := fun i =>
  ∑ k : Fin 4096, a (ix2 k (i 0)) * D d1 d2 d3 k (i 1)

theorem idx0 : ∀ t : Fin cfg0.N, win0_0.index t = ![t.val % 2, 0] := (by decide +kernel : ∀ t : Fin grid0.N, _)
theorem idx1 : ∀ t : Fin cfg0.N, t.val < 4 → win0_1.index t = ![t.val % 2, t.val / 2] := (by decide +kernel : ∀ t : Fin grid0.N, _)
theorem idx2 : ∀ t : Fin cfg0.N, t.val / 2 % 6 = 2 → win0_2.index t = ![t.val % 2, 0] := (by decide +kernel : ∀ t : Fin grid0.N, _)
theorem idx3 : ∀ t : Fin cfg0.N, 6 ≤ t.val → win0_3.index t = ![t.val % 2, t.val / 2 - 3] := (by decide +kernel : ∀ t : Fin grid0.N, _)
theorem idx4 : ∀ t : Fin cfg0.N, win0_4.index t = ![0, t.val / 2] := (by decide +kernel : ∀ t : Fin grid0.N, _)

variable (m : (ℓ : Loc nD τ sig) → Buf (Elt Ideal) ℓ) (ρ : Dev nD → PrngReg)

/-- A staged block of the inputs: one half of the tokens. -/
theorem blk0 (c : Dev nD) (t : Fin cfg0.N) (k : Fin 2048) (p : Fin 1024) (i : S4096x1024.Idx)
    (h0 : (i 0).val = t.val % 2 * 2048 + k.val) (h1 : (i 1).val = p.val) :
    iblk m c 0 t (ix2 k p) = m ((c : Thread nD τ).loc main_arg0) i := by
  unfold iblk
  rw [View.read_apply]
  show V m c main_arg0 _ = _
  rw [V_main_arg0]
  congr 1
  funext a
  apply Fin.ext
  match a with
  | ⟨0, _⟩ => show win0_0.index t 0 * 2048 + 1 * k.val = (i 0).val; rw [idx0, h0]; simp
  | ⟨1, _⟩ => show win0_0.index t 1 * 1024 + 1 * p.val = (i 1).val; rw [idx0, h1]; simp

theorem blk1 (c : Dev nD) (t : Fin cfg0.N) (hc : t.val < 4) (k : Fin 2048) (q : Fin 1024) (i : S4096x2048.Idx)
    (h0 : (i 0).val = t.val % 2 * 2048 + k.val) (h1 : (i 1).val = t.val / 2 * 1024 + q.val) :
    iblk m c 1 t (ix2 k q) = m ((c : Thread nD τ).loc main_arg1) i := by
  unfold iblk
  rw [View.read_apply]
  show V m c main_arg1 _ = _
  rw [V_main_arg1]
  congr 1
  funext a
  apply Fin.ext
  match a with
  | ⟨0, _⟩ => show win0_1.index t 0 * 2048 + 1 * k.val = (i 0).val; rw [idx1 t hc, h0]; simp
  | ⟨1, _⟩ => show win0_1.index t 1 * 1024 + 1 * q.val = (i 1).val; rw [idx1 t hc, h1]; simp

theorem blk2 (c : Dev nD) (t : Fin cfg0.N) (hc : t.val / 2 % 6 = 2) (k : Fin 2048) (q : Fin 1024) (i : S4096x1024.Idx)
    (h0 : (i 0).val = t.val % 2 * 2048 + k.val) (h1 : (i 1).val = 0 * 1024 + q.val) :
    iblk m c 2 t (ix2 k q) = m ((c : Thread nD τ).loc main_arg2) i := by
  unfold iblk
  rw [View.read_apply]
  show V m c main_arg2 _ = _
  rw [V_main_arg2]
  congr 1
  funext a
  apply Fin.ext
  match a with
  | ⟨0, _⟩ => show win0_2.index t 0 * 2048 + 1 * k.val = (i 0).val; rw [idx2 t hc, h0]; simp
  | ⟨1, _⟩ => show win0_2.index t 1 * 1024 + 1 * q.val = (i 1).val; rw [idx2 t hc, h1]; simp

theorem blk3 (c : Dev nD) (t : Fin cfg0.N) (hc : 6 ≤ t.val) (k : Fin 2048) (q : Fin 1024) (i : S4096x3072.Idx)
    (h0 : (i 0).val = t.val % 2 * 2048 + k.val) (h1 : (i 1).val = (t.val / 2 - 3) * 1024 + q.val) :
    iblk m c 3 t (ix2 k q) = m ((c : Thread nD τ).loc main_arg3) i := by
  unfold iblk
  rw [View.read_apply]
  show V m c main_arg3 _ = _
  rw [V_main_arg3]
  congr 1
  funext a
  apply Fin.ext
  match a with
  | ⟨0, _⟩ => show win0_3.index t 0 * 2048 + 1 * k.val = (i 0).val; rw [idx3 t hc, h0]; simp
  | ⟨1, _⟩ => show win0_3.index t 1 * 1024 + 1 * q.val = (i 1).val; rw [idx3 t hc, h1]; simp

/-- The staged block of whichever incoming gradient is multiplied at a point. -/
def dblk (c : Dev nD) (t : Fin cfg0.N) : Vec Ideal S2048x1024 .bf16 :=
  if t.val < 4 then iblk m c 1 t else if t.val / 2 % 6 = 2 then iblk m c 2 t else iblk m c 3 t

/-- It is the point's half of the tokens and its 1024 of all the columns. -/
theorem dblk_apply (c : Dev nD) (t : Fin cfg0.N) (k : Fin 2048) (q : Fin 1024) (r : Fin 4096) (j : Fin 6144)
    (h0 : r.val = t.val % 2 * 2048 + k.val) (h1 : j.val = t.val / 2 * 1024 + q.val) :
    dblk m c t (ix2 k q) = D (m ((c : Thread nD τ).loc main_arg1)) (m ((c : Thread nD τ).loc main_arg2)) (m ((c : Thread nD τ).loc main_arg3)) r j := by
  have hN : t.val < 12 := lt_of_lt_of_eq t.isLt N_0
  have hq := q.isLt
  unfold dblk D
  by_cases c1 : t.val < 4
  · rw [if_pos c1, dif_pos (by omega)]
    exact blk1 m c t c1 k q _ h0 h1
  · rw [if_neg c1, dif_neg (by omega)]
    by_cases c2 : t.val / 2 % 6 = 2
    · rw [if_pos c2, dif_pos (by omega)]
      exact blk2 m c t c2 k q _ h0 (by show j.val - 2048 = _; omega)
    · rw [if_neg c2, dif_neg (by omega)]
      exact blk3 m c t (by omega) k q _ h0 (by show j.val - 2048 - 1024 = _; omega)

/-- What the first of a block's two points leaves in the accumulator. -/
theorem acc_even (c : Dev nD) (t : Fin cfg0.N) (h : t.val % 2 = 0) :
    (outsAt0 m c t.val t.isLt).2 = k0_pay2 (iblk m c 0 t) (k0_pay1 (F := Ideal)) (dblk m c t) := by
  have hN : t.val < 12 := lt_of_lt_of_eq t.isLt N_0
  unfold dblk
  by_cases c1 : t.val < 4
  · rw [if_pos c1, outsAt0_A m c t h c1 (by omega) (by omega) (by omega)]
    frame_out
  · rw [if_neg c1]
    by_cases c2 : t.val / 2 % 6 = 2
    · rw [if_pos c2, outsAt0_C m c t h c1 c2 (by omega) (by omega)]
      frame_out
      rfl
    · rw [if_neg c2, outsAt0_E m c t h c1 c2 (by omega) (by omega)]
      frame_out
      rfl

/-- What the second of a block's two points leaves in the output block. -/
theorem out_odd (c : Dev nD) (t : Fin cfg0.N) (h : t.val % 2 = 1) (hlt : t.val - 1 < cfg0.N) :
    (outsAt0 m c t.val t.isLt).1 = k0_pay5 (k0_pay2 (iblk m c 0 t) (k0_pay2 (iblk m c 0 ⟨t.val - 1, hlt⟩) (k0_pay1 (F := Ideal)) (dblk m c ⟨t.val - 1, hlt⟩)) (dblk m c t)) := by
  have hN : t.val < 12 := lt_of_lt_of_eq t.isLt N_0
  have hs := acc_even m c ⟨t.val - 1, hlt⟩ (by show (t.val - 1) % 2 = 0; omega)
  rw [← hs]
  unfold dblk
  by_cases c1 : t.val < 4
  · rw [if_pos c1, outsAt0_B m c t (by omega) c1 (by omega) (by omega) h]
    frame_out
    simp only [read_unread_whole]
  · rw [if_neg c1]
    by_cases c2 : t.val / 2 % 6 = 2
    · rw [if_pos c2, outsAt0_D m c t (by omega) c1 c2 (by omega) h]
      frame_out
      simp only [read_unread_whole]
      rfl
    · rw [if_neg c2, outsAt0_F m c t (by omega) c1 c2 (by omega) h]
      frame_out
      simp only [read_unread_whole]
      rfl

/-- The result array after the run is the gradient. -/
theorem final (c : Dev nD) : (dats m 0 c).arrAt 4 cfg0.N
    = W (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h1 : t.val % 2 = 1 := (flush0_4 t).mp hf
  have hlt : t.val - 1 < cfg0.N := Nat.lt_of_le_of_lt (Nat.sub_le _ _) t.isLt
  blk_simp
  rw [after0_4, out_odd m c t h1 hlt]
  obtain ⟨p, q, rfl⟩ : ∃ (p : Fin 1024) (q : Fin 1024), y = ix2 p q := ⟨y 0, y 1, eq_ix2 y⟩
  refine (pay_apply _ _ _ _ p q).trans ?_
  have e0 : ((((View.whole main_v0).slice (win0_4.rect t)).emb (ix2 p q)) 0).val = p.val := by
    show win0_4.index t 0 * 1024 + 1 * p.val = _; rw [idx4]; simp
  have e1 : ((((View.whole main_v0).slice (win0_4.rect t)).emb (ix2 p q)) 1).val = t.val / 2 * 1024 + q.val := by
    show win0_4.index t 1 * 1024 + 1 * q.val = _; rw [idx4]; simp
  unfold W
  rw [Fin.sum_univ_two_halves 2048 2048 rfl]
  have d1 : (t.val - 1) % 2 = 0 := by omega
  have d2 : (t.val - 1) / 2 = t.val / 2 := by omega
  congr 1
  · refine Finset.sum_congr rfl fun k _ => ?_
    have hk := k.isLt
    rw [blk0 m c ⟨t.val - 1, hlt⟩ k p (ix2 ⟨k.val, by omega⟩ _) (by simp [d1]) e0, dblk_apply m c ⟨t.val - 1, hlt⟩ k q ⟨k.val, by omega⟩ _ (by simp [d1]) (by rw [d2]; exact e1)]
  · refine Finset.sum_congr rfl fun k _ => ?_
    have hk := k.isLt
    rw [blk0 m c t k p (ix2 ⟨2048 + k.val, by omega⟩ _) (by simp [h1]) e0, dblk_apply m c t k q ⟨2048 + k.val, by omega⟩ _ (by simp [h1]) e1]

end Cert.InKernelIdeal.Hand

namespace Cert.Proof.In

theorem algebraic : Cert.algebraic_InKernelIdeal_InReferenceIdeal := by
  intro m ρ m' ρ' _ hagree
  refine ⟨fun c => Cert.InKernelIdeal.Hand.W (m ((c.tc : Thread _ _).loc Cert.InKernelIdeal.main_arg0)) (m ((c.tc : Thread _ _).loc Cert.InKernelIdeal.main_arg1)) (m ((c.tc : Thread _ _).loc Cert.InKernelIdeal.main_arg2)) (m ((c.tc : Thread _ _).loc Cert.InKernelIdeal.main_arg3)),
    (θ_run Cert.InKernelIdeal.defs _ _).mono (fun _ h c => ⟨(h c).1.trans (Cert.InKernelIdeal.Hand.final m c), (h c).2⟩)
      (Cert.InKernelIdeal.Value.run_blocks (F := Ideal) m ρ), ?_⟩
  refine (θ_run Cert.InReferenceIdeal.defs _ _).mono (fun _ h c => ⟨(h c).1.trans ?_, (h c).2⟩) (Cert.InReferenceIdeal.Value.run (F := Ideal) m' ρ')
  rw [(hagree c).1, (hagree c).2.1, (hagree c).2.2.1, (hagree c).2.2.2]
  funext i
  unfold Cert.InKernelIdeal.Hand.W Cert.InKernelIdeal.Hand.D
  pointwise
  refine Finset.sum_congr rfl fun k _ => ?_
  exact mul_comm (G := EReal) _ _

end Cert.Proof.In
end
-- ==== Proof.Norm.lean ====
module

public import Idealize.ShloMosaic.Lib.Pointwise
public import Mathlib.Data.EReal.Inv

@[expose] public section

/-! The gradient of the root-mean-square norm at one row: the kernel's form, which takes the inverse root out, is the form the
    derivative of the norm's own text has. No entry need be finite: the inverse root is a real, or zero when the mean square
    is infinite. -/

namespace Cert.Proof

open Idealize.ShloMosaic

theorem mul_self_nonneg' (y : EReal) : 0 ≤ y * y := by
  induction y with
  | bot => simp
  | top => simp
  | coe r => exact_mod_cast mul_self_nonneg r

theorem real_mul_sum {ι : Type*} (s : Finset ι) (f : ι → EReal) (ρ : ℝ) (h : 0 ≤ ρ) :
    (ρ : EReal) * ∑ k ∈ s, f k = ∑ k ∈ s, (ρ : EReal) * f k := by
  classical
  induction s using Finset.induction_on with
  | empty => simp
  | insert a s ha ih => rw [Finset.sum_insert ha, Finset.sum_insert ha, EReal.left_distrib_of_nonneg_of_ne_top
      (by exact_mod_cast h) (EReal.coe_ne_top _), ih]

theorem double (y : EReal) : y + y = ((2 : ℝ) : EReal) * y := by
  have h : ((2 : ℝ) : EReal) = 1 + 1 := by norm_cast
  rw [h, EReal.right_distrib_of_nonneg zero_le_one zero_le_one, one_mul]

theorem div_real (y : EReal) (a : ℝ) (h : a ≠ 0) : Ideal.div y (a : EReal) = ((a⁻¹ : ℝ) : EReal) * y := by
  rw [Ideal.div, if_neg (by exact_mod_cast h), ← EReal.coe_inv, mul_comm]

theorem norm_bwd {n : ℕ} (x t : Fin n → EReal) {N e h : EReal} {a b : ℝ} (hN : N = (a : EReal)) (ha : 0 < a)
    (he : e = (b : EReal)) (hb : 0 < b) (hh : h = ((-(1 / 2) : ℝ) : EReal)) (dy : EReal) (j : Fin n) {v q : EReal}
    (hv : v = Ideal.div (∑ k, x k * x k) N + e)
    (hq : q = Ideal.div ((∑ k, x k * t k) * (h * Ideal.div (Ideal.rsqrt v) v)) N) :
    dy + Ideal.rsqrt v * (t j - x j * Ideal.rsqrt v * Ideal.div (∑ k, t k * (x k * Ideal.rsqrt v)) N)
      = dy + t j * Ideal.rsqrt v + x j * q + q * x j := by
  subst hN he hh
  have hS : 0 ≤ ∑ k, x k * x k := Finset.sum_nonneg fun k _ => mul_self_nonneg' _
  rw [div_real _ _ ha.ne'] at hv hq
  rw [div_real _ _ ha.ne']
  have h0 : (b : EReal) ≤ v := by
    rw [hv]
    exact le_add_of_nonneg_left (mul_nonneg (by exact_mod_cast (inv_pos.mpr ha).le) hS)
  clear hv
  induction v with
  | bot => exact absurd h0 (by simp)
  | top =>
    have h1 : q = 0 := by rw [hq, Ideal.rsqrt_top, Ideal.div]; simp
    rw [h1, Ideal.rsqrt_top]; simp
  | coe w =>
    have hw : 0 < w := hb.trans_le (by exact_mod_cast h0)
    have hr : Ideal.rsqrt (w : EReal) = (((Real.sqrt w)⁻¹ : ℝ) : EReal) := by
      rw [Ideal.rsqrt_coe, if_neg hw.not_gt, if_neg hw.ne']
    have hp : 0 < (Real.sqrt w)⁻¹ := inv_pos.mpr (Real.sqrt_pos.mpr hw)
    have h2 : (Real.sqrt w)⁻¹ * (Real.sqrt w)⁻¹ = w⁻¹ := by rw [← mul_inv, Real.mul_self_sqrt hw.le]
    rw [hr] at hq ⊢
    rw [div_real _ _ hw.ne'] at hq
    generalize (Real.sqrt w)⁻¹ = ρ at *
    have hs : ∑ k, t k * (x k * (ρ : EReal)) = (ρ : EReal) * ∑ k, x k * t k := by
      rw [real_mul_sum _ _ _ hp.le]
      exact Finset.sum_congr rfl fun k _ => by rw [← mul_assoc, mul_comm (ρ : EReal), mul_comm (t k)]
    rw [hs]
    generalize (∑ k, x k * t k) = s at *
    have hq2 : x j * q + q * x j = -(((ρ * ρ * ρ * a⁻¹ : ℝ) : EReal) * (x j * s)) := by
      have e2 : q * x j = x j * q := mul_comm _ _
      have e1 : x j * q = ((a⁻¹ * (-(1 / 2) * (w⁻¹ * ρ)) : ℝ) : EReal) * (x j * s) := by
        rw [hq]; push_cast; ac_rfl
      rw [e2, double, e1, ← mul_assoc, ← EReal.coe_mul, ← EReal.neg_mul, ← EReal.coe_neg]
      congr 2
      rw [← h2]; ring
    rw [add_assoc (dy + _), hq2, add_assoc dy, sub_eq_add_neg, EReal.left_distrib_of_nonneg_of_ne_top
      (by exact_mod_cast hp.le) (EReal.coe_ne_top _), mul_neg]
    have e3 : (ρ : EReal) * (x j * (ρ : EReal) * (((a⁻¹ : ℝ) : EReal) * ((ρ : EReal) * s)))
        = ((ρ * ρ * ρ * a⁻¹ : ℝ) : EReal) * (x j * s) := by
      push_cast; ac_rfl
    rw [e3, mul_comm (ρ : EReal) (t j)]

/-! ## With the programs' constants -/

theorem ofBits_width : Ideal.ofBits .f32 0x44800000#32 = ((1024 : ℝ) : EReal) := by
  simp [Ideal.ofBits, Ideal.ieee, -EReal.coe_mul]; norm_num
theorem ofBits_half : Ideal.ofBits .f32 0xBF000000#32 = ((-(1 / 2) : ℝ) : EReal) := by
  simp [Ideal.ofBits, Ideal.ieee, -EReal.coe_mul]; norm_num
theorem ofBits_eps : ∃ b : ℝ, Ideal.ofBits .f32 0x358637BD#32 = (b : EReal) ∧ 0 < b := by
  refine ⟨_, by simp [Ideal.ofBits, Ideal.ieee, -EReal.coe_mul]; rfl, by positivity⟩

/-- The mean square of a row, with the norm's constant. -/
noncomputable def ms (x : Fin 1024 → EReal) : EReal :=
  Ideal.div (∑ k, x k * x k) (Ideal.ofBits .f32 0x44800000#32) + Ideal.ofBits .f32 0x358637BD#32

/-- The gradient of the norm at column `j` of a row `x`, added to `dy`, from the row `t` of the gradients already multiplied by
    the norm's weight: as the kernels compute it. -/
noncomputable def normGrad (x t : Fin 1024 → EReal) (dy : EReal) (j : Fin 1024) : EReal :=
  dy + Ideal.rsqrt (ms x) * (t j - x j * Ideal.rsqrt (ms x)
    * Ideal.div (∑ k, t k * (x k * Ideal.rsqrt (ms x))) (Ideal.ofBits .f32 0x44800000#32))

theorem normGrad_congr {x x' t t' : Fin 1024 → EReal} {dy dy' : EReal} (j : Fin 1024) (hx : ∀ k, x k = x' k) (ht : ∀ k, t k = t' k)
    (hd : dy = dy') : normGrad x t dy j = normGrad x' t' dy' j := by
  rw [funext hx, funext ht, hd]

/-- The part of that gradient that comes through the mean square, as the derivative of the norm's text has it. -/
noncomputable def meanGrad (x t : Fin 1024 → EReal) : EReal :=
  Ideal.div ((∑ k, x k * t k) * (Ideal.ofBits .f32 0xBF000000#32 * Ideal.div (Ideal.rsqrt (ms x)) (ms x)))
    (Ideal.ofBits .f32 0x44800000#32)

theorem normGrad_eq (x t : Fin 1024 → EReal) (dy : EReal) (j : Fin 1024) :
    normGrad x t dy j = dy + t j * Ideal.rsqrt (ms x) + x j * meanGrad x t + meanGrad x t * x j := by
  obtain ⟨b, he, hb⟩ := ofBits_eps
  exact norm_bwd x t ofBits_width (by norm_num) he hb ofBits_half dy j rfl rfl

end Cert.Proof
-- ==== Proof.MlpKer.lean ====
/-
  The gradient of the feed-forward layer: what each store of the kernel holds, and the arrays the pipeline leaves.
-/
module

public import proofs.«01_k».proof.Defs
public import proofs.«01_k».proof.Proof.Norm
public import proofs.«01_k».proof.Proof.Gen.MlpKernelIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.MlpKernelIdeal.Hand

open Cert.Proof Cert.MlpKernelIdeal Cert.MlpKernelIdeal.Gen

/-! ## What the stores hold, at an index -/

/-- The gradient of a squared rectifier at `a`, times `d`. -/
abbrev relu2 (d a : EReal) : EReal := d * (Ideal.ofBits .f32 0x40000000#32 * max a 0)

theorem pay2_apply (x : Vec Ideal S512x1024 .bf16) (w : Vec Ideal S1024x1024 .bf16) (a : Vec Ideal S512x1024 .bf16) (p : Fin 512) (q : Fin 1024) :
    k0_pay2 x w a (ix2 p q) = relu2 (∑ j : Fin 1024, x (ix2 p j) * w (ix2 q j)) (a (ix2 p q)) := by
  unfold_payloads
  pointwise

theorem pay5_apply (x : Vec Ideal S512x1024 .bf16) (w : Vec Ideal S1024x1024 .bf16) (a : Vec Ideal S512x1024 .bf16) (p : Fin 512) (q : Fin 1024) :
    k0_pay5 x w a (ix2 p q) = relu2 (∑ j : Fin 1024, x (ix2 p j) * w (ix2 q j)) (a (ix2 p q)) := by
  unfold_payloads
  pointwise

theorem pay6_apply (x : Vec Ideal S512x1024 .bf16) (w : Vec Ideal S1024x1024 .bf16) (a : Vec Ideal S512x1024 .bf16) (p : Fin 512) (q : Fin 1024) :
    k0_pay6 (k0_pay4 x w) a (ix2 p q) = relu2 (∑ j : Fin 1024, x (ix2 p j) * w (ix2 q j)) (a (ix2 p q)) := by
  unfold_payloads
  pointwise

theorem pay7_apply (x : Vec Ideal S512x1024 .bf16) (w : Vec Ideal S1024x1024 .bf16) (a : Vec Ideal S512x1024 .bf16) (p : Fin 512) (q : Fin 1024) :
    k0_pay7 (k0_pay1 x) w a (ix2 p q) = relu2 (∑ j : Fin 1024, x (ix2 p j) * w (ix2 q j)) (a (ix2 p q)) := by
  unfold_payloads
  pointwise

theorem pay3_apply (x : Vec Ideal S512x1024 .bf16) (w : Vec Ideal S1024x1024 .bf16) (a : Vec Ideal S512x1024 .bf16) (u : Vec Ideal S1024x1024 .bf16) (p : Fin 512) (q : Fin 1024) :
    k0_pay3 x w a u (ix2 p q) = ∑ k : Fin 1024, k0_pay2 x w a (ix2 p k) * u (ix2 q k) := by
  unfold k0_pay3
  pointwise

theorem pay8_apply (x : FVec Ideal S512x1024 .bf16) (d0 d2 : FVec Ideal S512x1024 .f32) (a1 : FVec Ideal S512x1024 .bf16) (u1 w3 : Vec Ideal S1024x1024 .bf16) (a2 : Vec Ideal S512x1024 .bf16)
    (u2 : Vec Ideal S1024x1024 .bf16) (a3 : Vec Ideal S512x1024 .bf16) (u3 : Vec Ideal S1024x1024 .bf16) (p : Fin 512) (q : Fin 1024) :
    k0_pay8 x d0 d2 a1 u1 w3 a2 u2 a3 u3 (ix2 p q) = d0 (ix2 p q) + (∑ k : Fin 1024, a1 (ix2 p k) * u1 (ix2 q k))
      + (∑ k : Fin 1024, k0_pay6 d2 a2 (ix2 p k) * u2 (ix2 q k)) + (∑ k : Fin 1024, k0_pay7 x w3 a3 (ix2 p k) * u3 (ix2 q k)) := by
  unfold k0_pay8
  pointwise

theorem pay12_apply (t : FVec Ideal S512x1024 .f32) (x : Vec Ideal S512x1024 .f32) (g : Vec Ideal S1x1024 .f32) (d : Vec Ideal S512x1024 .f32) (p : Fin 512) (q : Fin 1024) :
    k0_pay12 t x g d (ix2 p q) = normGrad (fun k => x (ix2 p k)) (fun k => t (ix2 p k) * g (ix2 0 k)) (d (ix2 p q)) q := by
  unfold normGrad ms
  unfold_payloads
  pointwise

theorem pay13_apply (t : FVec Ideal S512x1024 .f32) (x : Vec Ideal S512x1024 .f32) (g : Vec Ideal S1x1024 .f32) (d : Vec Ideal S512x1024 .f32) (p : Fin 512) (q : Fin 1024) :
    k0_pay13 t x g d (ix2 p q) = normGrad (fun k => x (ix2 p k)) (fun k => t (ix2 p k) * g (ix2 0 k)) (d (ix2 p q)) q :=
  pay12_apply t x g d p q

/-! ## The results, as functions of whole arrays -/

/-- Place `k` of the slab of 1024 that begins at `o`. -/
def col (o : ℕ) (h : o + 1024 ≤ 4096) (k : Fin 1024) : Fin 4096 := ⟨o + k.val, by have := k.isLt; omega⟩

/-- The gradient of the pre-activations. -/
def DA (dy : S4096x1024.Idx → EReal) (a : S4096x4096.Idx → EReal) (wd : S4096x1024.Idx → EReal) (i k : Fin 4096) : EReal :=
  relu2 (∑ j : Fin 1024, dy (ix2 i j) * wd (ix2 k j)) (a (ix2 i k))

/-- The product of a slab of the gradients of the pre-activations with the same slab of the weight. -/
def slab (da : Fin 4096 → Fin 4096 → EReal) (wu : S1024x4096.Idx → EReal) (o : ℕ) (h : o + 1024 ≤ 4096) (i : Fin 4096) (j : Fin 1024) : EReal :=
  ∑ k : Fin 1024, da i (col o h k) * wu (ix2 j (col o h k))

/-- The gradient of the normalised input. -/
def DH (da : Fin 4096 → Fin 4096 → EReal) (wu : S1024x4096.Idx → EReal) (i : Fin 4096) (j : Fin 1024) : EReal :=
  slab da wu 0 (by omega) i j + slab da wu 1024 (by omega) i j + slab da wu 2048 (by omega) i j + slab da wu 3072 (by omega) i j

def W7 (da : Fin 4096 → Fin 4096 → EReal) : S4096x4096.Idx → EReal := fun i => da (i 0) (i 1)

def W8 (dh : Fin 4096 → Fin 1024 → EReal) (x : S4096x1024.Idx → EReal) (g : Fin 1024 → EReal) (dy : S4096x1024.Idx → EReal) : S4096x1024.Idx → EReal := fun i =>
  normGrad (fun k => x (ix2 (i 0) k)) (fun k => dh (i 0) k * g k) (dy (ix2 (i 0) (i 1))) (i 1)

/-! ## The staged blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = V m c main_v16 (ix2 (row t p) q) := by
  unfold iblk
  rw [View.read_apply]
  show V m c main_v16 _ = _
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 512) (q : Fin 4096) :
    iblk m c 1 t (ix2 p q) = V m c main_v15 (ix2 (row t p) q) := by
  unfold iblk
  rw [View.read_apply]
  show V m c main_v15 _ = _
  congr 1
  funext a
  apply Fin.ext
  match a with
  | ⟨0, _⟩ => show win0_1.index t 0 * 512 + 1 * p.val = t.val * 512 + p.val; rw [idx1]; simp
  | ⟨1, _⟩ => show win0_1.index t 1 * 4096 + 1 * q.val = q.val; rw [idx1]; simp

theorem blk2 (c : Dev nD) (t : Fin cfg0.N) (p : Fin 4096) (q : Fin 1024) :
    iblk m c 2 t (ix2 p q) = m ((c : Thread nD τ).loc main_arg3) (ix2 p q) := by
  unfold iblk
  rw [View.read_apply]
  show V m c main_arg3 _ = _
  rw [V_main_arg3]
  congr 1
  funext a
  apply Fin.ext
  match a with
  | ⟨0, _⟩ => show win0_2.index t 0 * 4096 + 1 * p.val = p.val; rw [idx2]; simp
  | ⟨1, _⟩ => show win0_2.index t 1 * 1024 + 1 * q.val = q.val; rw [idx2]; simp

theorem blk3 (c : Dev nD) (t : Fin cfg0.N) (p : Fin 1024) (q : Fin 4096) :
    iblk m c 3 t (ix2 p q) = m ((c : Thread nD τ).loc main_arg2) (ix2 p q) := by
  unfold iblk
  rw [View.read_apply]
  show V m c main_arg2 _ = _
  rw [V_main_arg2]
  congr 1
  funext a
  apply Fin.ext
  match a with
  | ⟨0, _⟩ => show win0_3.index t 0 * 1024 + 1 * p.val = p.val; rw [idx3]; simp
  | ⟨1, _⟩ => show win0_3.index t 1 * 4096 + 1 * q.val = q.val; rw [idx3]; simp

theorem blk4 (c : Dev nD) (t : Fin cfg0.N) (p : Fin 512) (q : Fin 1024) :
    iblk m c 4 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_4.index t 0 * 512 + 1 * p.val = t.val * 512 + p.val; rw [idx4]; simp
  | ⟨1, _⟩ => show win0_4.index t 1 * 1024 + 1 * q.val = q.val; rw [idx4]; simp

theorem blk5 (c : Dev nD) (t : Fin cfg0.N) (p : Fin 512) (q : Fin 1024) :
    iblk m c 5 t (ix2 p q) = m ((c : Thread nD τ).loc main_arg4) (ix2 (row t p) q) := by
  unfold iblk
  rw [View.read_apply]
  show V m c main_arg4 _ = _
  rw [V_main_arg4]
  congr 1
  funext a
  apply Fin.ext
  match a with
  | ⟨0, _⟩ => show win0_5.index t 0 * 512 + 1 * p.val = t.val * 512 + p.val; rw [idx5]; simp
  | ⟨1, _⟩ => show win0_5.index t 1 * 1024 + 1 * q.val = q.val; rw [idx5]; simp

theorem blk6 (c : Dev nD) (t : Fin cfg0.N) (p : Fin 1) (q : Fin 1024) :
    iblk m c 6 t (ix2 p q) = V m c main_v17 (ix2 p q) := by
  unfold iblk
  rw [View.read_apply]
  show V m c main_v17 _ = _
  congr 1
  funext a
  apply Fin.ext
  match a with
  | ⟨0, _⟩ => show win0_6.index t 0 * 1 + 1 * p.val = p.val; rw [idx6]; simp
  | ⟨1, _⟩ => show win0_6.index t 1 * 1024 + 1 * q.val = q.val; rw [idx6]; simp

theorem V17 (c : Dev nD) (q : Fin 1024) : V m c main_v17 (ix2 0 q) = m ((c : Thread nD τ).loc main_arg1) (ix1 q) := by
  have e : V m c main_v17 = shapeCast S1x1024 (m ((c : Thread nD τ).loc main_arg1)) shapeCasts_S1024_S1x1024 := by
    show StableHlo.after (hostOps0 (F := Ideal)) (fun b => m (c, b)) main_v17 = _
    simp only [hostOps0, StableHlo.TRef.binary, StableHlo.TRef.nullary, StableHlo.TRef.reshape, StableHlo.TRef.unary, StableHlo.TRef.toBuf, StableHlo.TRef.ofBuf, cast_eq]
    after_results
    rfl
  rw [e]
  pointwise

theorem V16 (c : Dev nD) : V m c main_v16 = m ((c : Thread nD τ).loc main_arg4) := by
  show StableHlo.after (hostOps0 (F := Ideal)) (fun b => m (c, b)) main_v16 = _
  simp only [hostOps0, StableHlo.TRef.binary, StableHlo.TRef.nullary, StableHlo.TRef.reshape, StableHlo.TRef.unary, StableHlo.TRef.toBuf, StableHlo.TRef.ofBuf, cast_eq]
  after_results
  rfl

/-- A slab of a block's columns. -/
theorem ld_col {r : ℕ} (X : Vec Ideal ⟨2, ![r, 4096]⟩ .bf16) (o : ℕ) (h : o + 1024 ≤ 4096) (inb : _) (p : Fin r) (q : Fin 1024) :
    View.ld X (Rect.unit ![0, o] ![r, 1024] inb) (ix2 p q) = X (ix2 p (col o h q)) := by
  refine congrArg X (funext fun a => Fin.ext ?_)
  match a with
  | ⟨0, _⟩ => show 0 + 1 * p.val = p.val; omega
  | ⟨1, _⟩ => show o + 1 * q.val = o + q.val; omega

/-- A slab of a block's rows. -/
theorem ld_row (X : Vec Ideal S4096x1024 .bf16) (o : ℕ) (h : o + 1024 ≤ 4096) (inb : _) (p q : Fin 1024) :
    View.ld X (Rect.unit ![o, 0] ![1024, 1024] inb) (ix2 p q) = X (ix2 (col o h p) q) := by
  refine congrArg X (funext fun a => Fin.ext ?_)
  match a with
  | ⟨0, _⟩ => show o + 1 * p.val = o + p.val; omega
  | ⟨1, _⟩ => show 0 + 1 * q.val = q.val; omega

/-! ## What a point's stores hold -/

abbrev dyb (c : Dev nD) (t : Fin cfg0.N) : Vec Ideal S512x1024 .bf16 := iblk m c 0 t
abbrev pre (c : Dev nD) (t : Fin cfg0.N) : Vec Ideal S512x4096 .bf16 := iblk m c 1 t
abbrev wd (c : Dev nD) (t : Fin cfg0.N) : Vec Ideal S4096x1024 .bf16 := iblk m c 2 t
abbrev wu (c : Dev nD) (t : Fin cfg0.N) : Vec Ideal S1024x4096 .bf16 := iblk m c 3 t

/-- The gradient of the pre-activations and of the normalised input, of the arrays on a device. -/
def da (c : Dev nD) : Fin 4096 → Fin 4096 → EReal := DA (m ((c : Thread nD τ).loc main_arg4)) (V m c main_v15) (m ((c : Thread nD τ).loc main_arg3))
def dh (c : Dev nD) : Fin 4096 → Fin 1024 → EReal := DH (da m c) (m ((c : Thread nD τ).loc main_arg2))

theorem da_apply (c : Dev nD) (t : Fin cfg0.N) (o : ℕ) (h : o + 1024 ≤ 4096) (inb inb' : _) (p : Fin 512) (q : Fin 1024) :
    relu2 (∑ j : Fin 1024, dyb m c t (ix2 p j) * View.ld (wd m c t) (Rect.unit ![o, 0] ![1024, 1024] inb) (ix2 q j))
        (View.ld (pre m c t) (Rect.unit ![0, o] ![512, 1024] inb') (ix2 p q)) = da m c (row t p) (col o h q) :=
  congrArg₂ relu2 (Finset.sum_congr rfl fun j _ => congrArg₂ (· * ·) ((blk0 m c t p j).trans (congrFun (V16 m c) _)) ((ld_row (wd m c t) o h inb q j).trans (blk2 m c t _ j)))
    ((ld_col (pre m c t) o h inb' p q).trans (blk1 m c t p _))

theorem slab_apply (c : Dev nD) (t : Fin cfg0.N) (D : S512x1024.Idx → EReal) (o : ℕ) (h : o + 1024 ≤ 4096) (inb : _) (p : Fin 512) (q : Fin 1024)
    (hD : ∀ k, D (ix2 p k) = da m c (row t p) (col o h k)) :
    ∑ k : Fin 1024, D (ix2 p k) * (View.ld (wu m c t) (Rect.unit ![0, o] ![1024, 1024] inb) (ix2 q k) : EReal)
      = slab (da m c) (m ((c : Thread nD τ).loc main_arg2)) o h (row t p) q :=
  Finset.sum_congr rfl fun k _ => congrArg₂ (· * ·) (hD k) ((ld_col (wu m c t) o h inb q k).trans (blk3 m c t q _))

/-- The sum of the four products. -/
abbrev acc (c : Dev nD) (t : Fin cfg0.N) : FVec Ideal S512x1024 .f32 :=
  k0_pay8 (k0_pay1 (dyb m c t))
    (k0_pay3 (dyb m c t) (View.ld (wd m c t) (Rect.unit ![0, 0] ![1024, 1024] inb_S4096x1024_S1024x1024_0_0))
      (View.ld (pre m c t) (Rect.unit ![0, 0] ![512, 1024] inb_S512x4096_S512x1024_0_0))
      (View.ld (wu m c t) (Rect.unit ![0, 0] ![1024, 1024] inb_S1024x4096_S1024x1024_0_0)))
    (k0_pay4 (dyb m c t) (View.ld (wd m c t) (Rect.unit ![2048, 0] ![1024, 1024] inb_S4096x1024_S1024x1024_2048_0)))
    (k0_pay5 (dyb m c t) (View.ld (wd m c t) (Rect.unit ![1024, 0] ![1024, 1024] inb_S4096x1024_S1024x1024_1024_0))
      (View.ld (pre m c t) (Rect.unit ![0, 1024] ![512, 1024] inb_S512x4096_S512x1024_0_1024)))
    (View.ld (wu m c t) (Rect.unit ![0, 1024] ![1024, 1024] inb_S1024x4096_S1024x1024_0_1024))
    (View.ld (wd m c t) (Rect.unit ![3072, 0] ![1024, 1024] inb_S4096x1024_S1024x1024_3072_0))
    (View.ld (pre m c t) (Rect.unit ![0, 2048] ![512, 1024] inb_S512x4096_S512x1024_0_2048))
    (View.ld (wu m c t) (Rect.unit ![0, 2048] ![1024, 1024] inb_S1024x4096_S1024x1024_0_2048))
    (View.ld (pre m c t) (Rect.unit ![0, 3072] ![512, 1024] inb_S512x4096_S512x1024_0_3072))
    (View.ld (wu m c t) (Rect.unit ![0, 3072] ![1024, 1024] inb_S1024x4096_S1024x1024_0_3072))

theorem acc_apply (c : Dev nD) (t : Fin cfg0.N) (p : Fin 512) (q : Fin 1024) : acc m c t (ix2 p q) = dh m c (row t p) q := by
  refine (pay8_apply _ _ _ _ _ _ _ _ _ _ p q).trans ?_
  exact congrArg₂ (· + ·) (congrArg₂ (· + ·) (congrArg₂ (· + ·)
    ((pay3_apply _ _ _ _ p q).trans (slab_apply m c t _ 0 (by omega) _ p q fun k => (pay2_apply _ _ _ p k).trans (da_apply m c t 0 (by omega) _ _ p k)))
    (slab_apply m c t _ 1024 (by omega) _ p q fun k => (pay5_apply _ _ _ p k).trans (da_apply m c t 1024 (by omega) _ _ p k)))
    (slab_apply m c t _ 2048 (by omega) _ p q fun k => (pay6_apply _ _ _ p k).trans (da_apply m c t 2048 (by omega) _ _ p k)))
    (slab_apply m c t _ 3072 (by omega) _ p q fun k => (pay7_apply _ _ _ p k).trans (da_apply m c t 3072 (by omega) _ _ p k))

/-- The gradient of the layer's input, of the arrays on a device. -/
abbrev R8 (c : Dev nD) : S4096x1024.Idx → EReal :=
  W8 (dh m c) (m ((c : Thread nD τ).loc main_arg0)) (fun k => m ((c : Thread nD τ).loc main_arg1) (ix1 k)) (m ((c : Thread nD τ).loc main_arg4))

theorem store8 (c : Dev nD) (t : Fin cfg0.N) (p : Fin 512) (q : Fin 1024) :
    k0_pay12 (acc m c t) (iblk m c 4 t) (iblk m c 6 t) (iblk m c 5 t) (ix2 p q) = R8 m c (ix2 (row t p) q) :=
  (pay12_apply _ _ _ _ p q).trans (normGrad_congr q (fun k => blk4 m c t p k)
    (fun k => congrArg₂ (· * ·) (acc_apply m c t p k) ((blk6 m c t 0 k).trans (V17 m c k))) (blk5 m c t p q))

theorem store9 (c : Dev nD) (t : Fin cfg0.N) (p : Fin 512) (q : Fin 1024) :
    k0_pay13 (acc m c t) (iblk m c 4 t) (iblk m c 6 t) (iblk m c 5 t) (ix2 p q) = R8 m c (ix2 (row t p) q) :=
  (pay13_apply _ _ _ _ p q).trans ((pay12_apply _ _ _ _ p q).symm.trans (store8 m c t p q))

theorem out7 (c : Dev nD) (t : Fin cfg0.N) (p : Fin 512) (q : Fin 4096) :
    (outsAt0 m c t.val t.isLt).1 (ix2 p q) = W7 (da m c) (ix2 (row t p) q) := by
  have key : (View.canon (Val := Elt Ideal) (s := S512x4096) (e := .bf16) [
        ⟨Rect.unit ![0, 3072] ![512, 1024] inb_S512x4096_S512x1024_0_3072,
          k0_pay7 (k0_pay1 (dyb m c t)) (View.ld (wd m c t) (Rect.unit ![3072, 0] ![1024, 1024] inb_S4096x1024_S1024x1024_3072_0))
            (View.ld (pre m c t) (Rect.unit ![0, 3072] ![512, 1024] inb_S512x4096_S512x1024_0_3072))⟩,
        ⟨Rect.unit ![0, 2048] ![512, 1024] inb_S512x4096_S512x1024_0_2048,
          k0_pay6 (k0_pay4 (dyb m c t) (View.ld (wd m c t) (Rect.unit ![2048, 0] ![1024, 1024] inb_S4096x1024_S1024x1024_2048_0)))
            (View.ld (pre m c t) (Rect.unit ![0, 2048] ![512, 1024] inb_S512x4096_S512x1024_0_2048))⟩,
        ⟨Rect.unit ![0, 1024] ![512, 1024] inb_S512x4096_S512x1024_0_1024,
          k0_pay5 (dyb m c t) (View.ld (wd m c t) (Rect.unit ![1024, 0] ![1024, 1024] inb_S4096x1024_S1024x1024_1024_0))
            (View.ld (pre m c t) (Rect.unit ![0, 1024] ![512, 1024] inb_S512x4096_S512x1024_0_1024))⟩,
        ⟨Rect.unit ![0, 0] ![512, 1024] inb_S512x4096_S512x1024_0_0,
          k0_pay2 (dyb m c t) (View.ld (wd m c t) (Rect.unit ![0, 0] ![1024, 1024] inb_S4096x1024_S1024x1024_0_0))
            (View.ld (pre m c t) (Rect.unit ![0, 0] ![512, 1024] inb_S512x4096_S512x1024_0_0))⟩] : S512x4096.Idx → EReal) (ix2 p q) = W7 (da m c) (ix2 (row t p) q) := by
    have at_ : ∀ (o : ℕ) (h : o + 1024 ≤ 4096) (v : S512x1024.Idx → EReal),
        (∀ (a : Fin 512) (b : Fin 1024), v (ix2 a b) = da m c (row t a) (col o h b)) →
        ∀ x : S512x1024.Idx, (∀ k, (ix2 p q k).val = ![0, o] k + (x k).val) → v x = W7 (da m c) (ix2 (row t p) q) := by
      intro o h v hv x hx
      obtain ⟨a, b, rfl⟩ : ∃ (a : Fin 512) (b : Fin 1024), x = ix2 a b := ⟨x 0, x 1, eq_ix2 x⟩
      have h0 : p = a := Fin.ext ((hx 0).trans (Nat.zero_add _))
      have h1 : q = col o h b := Fin.ext (hx 1)
      subst h0 h1
      exact hv p b
    refine View.canon_eq_of_allAt _ _ _ (View.cover_of_tiled_head _ _ _ rfl _)
      (View.allAt_cons_unit _ _ _ _ _ ?_ (View.allAt_cons_unit _ _ _ _ _ ?_ (View.allAt_cons_unit _ _ _ _ _ ?_ (View.allAt_cons_unit _ _ _ _ _ ?_ (View.allAt_nil _ _)))))
    · exact at_ 3072 (by omega) _ fun a b => (pay7_apply _ _ _ a b).trans (da_apply m c t 3072 (by omega) _ _ a b)
    · exact at_ 2048 (by omega) _ fun a b => (pay6_apply _ _ _ a b).trans (da_apply m c t 2048 (by omega) _ _ a b)
    · exact at_ 1024 (by omega) _ fun a b => (pay5_apply _ _ _ a b).trans (da_apply m c t 1024 (by omega) _ _ a b)
    · exact at_ 0 (by omega) _ fun a b => (pay2_apply _ _ _ a b).trans (da_apply m c t 0 (by omega) _ _ a b)
  by_cases h : t.val % 8 = 0
  · rw [outsAt0_A m c t h]
    frame_out
    exact key
  · rw [outsAt0_B m c t h]
    frame_out
    exact key

theorem out8 (c : Dev nD) (t : Fin cfg0.N) (p : Fin 512) (q : Fin 1024) :
    (outsAt0 m c t.val t.isLt).2.1 (ix2 p q) = R8 m c (ix2 (row t p) q) := by
  by_cases h : t.val % 8 = 0
  · rw [outsAt0_A m c t h]
    frame_out
    exact store8 m c t p q
  · rw [outsAt0_B m c t h]
    frame_out
    exact store8 m c t p q

theorem out9 (c : Dev nD) (t : Fin cfg0.N) (p : Fin 512) (q : Fin 1024) :
    (outsAt0 m c t.val t.isLt).2.2.1 (ix2 p q) = R8 m c (ix2 (row t p) q) := by
  by_cases h : t.val % 8 = 0
  · rw [outsAt0_A m c t h]
    frame_out
    exact store9 m c t p q
  · rw [outsAt0_B m c t h]
    frame_out
    exact store9 m c t p q

/-! ## The result arrays -/

theorem final7 (c : Dev nD) : (dats m 0 c).arrAt 7 cfg0.N = W7 (da m c) := by
  refine (dats m 0 c).arrAt_eq_of_covers 7 _ (by decide +kernel) fun t hf y => ?_
  obtain ⟨p, q, rfl⟩ : ∃ (p : Fin 512) (q : Fin 4096), y = ix2 p q := ⟨y 0, y 1, eq_ix2 y⟩
  have e : ((View.whole main_v18_0).slice (win0_7.rect t)).emb (ix2 p q) = ix2 (row t p) q := by
    funext a
    apply Fin.ext
    match a with
    | ⟨0, _⟩ => show win0_7.index t 0 * 512 + 1 * p.val = t.val * 512 + p.val; rw [idx7]; simp
    | ⟨1, _⟩ => show win0_7.index t 1 * 4096 + 1 * q.val = q.val; rw [idx7]; simp
  blk_simp
  rw [after0_7]
  exact (out7 m c t p q).trans (congrArg (W7 (da m c)) e).symm

theorem final8 (c : Dev nD) : (dats m 0 c).arrAt 8 cfg0.N = R8 m c := by
  refine (dats m 0 c).arrAt_eq_of_covers 8 _ (by decide +kernel) fun t hf y => ?_
  obtain ⟨p, q, rfl⟩ : ∃ (p : Fin 512) (q : Fin 1024), y = ix2 p q := ⟨y 0, y 1, eq_ix2 y⟩
  have e : ((View.whole main_v18_1).slice (win0_8.rect t)).emb (ix2 p q) = ix2 (row t p) q := by
    funext a
    apply Fin.ext
    match a with
    | ⟨0, _⟩ => show win0_8.index t 0 * 512 + 1 * p.val = t.val * 512 + p.val; rw [idx8]; simp
    | ⟨1, _⟩ => show win0_8.index t 1 * 1024 + 1 * q.val = q.val; rw [idx8]; simp
  blk_simp
  rw [after0_8]
  exact (out8 m c t p q).trans (congrArg (R8 m c) e).symm

theorem final9 (c : Dev nD) : (dats m 0 c).arrAt 9 cfg0.N = R8 m c := by
  refine (dats m 0 c).arrAt_eq_of_covers 9 _ (by decide +kernel) fun t hf y => ?_
  obtain ⟨p, q, rfl⟩ : ∃ (p : Fin 512) (q : Fin 1024), y = ix2 p q := ⟨y 0, y 1, eq_ix2 y⟩
  have e : ((View.whole main_v18_2).slice (win0_9.rect t)).emb (ix2 p q) = ix2 (row t p) q := by
    funext a
    apply Fin.ext
    match a with
    | ⟨0, _⟩ => show win0_9.index t 0 * 512 + 1 * p.val = t.val * 512 + p.val; rw [idx9]; simp
    | ⟨1, _⟩ => show win0_9.index t 1 * 1024 + 1 * q.val = q.val; rw [idx9]; simp
  blk_simp
  rw [after0_9]
  exact (out9 m c t p q).trans (congrArg (R8 m c) e).symm

end Cert.MlpKernelIdeal.Hand
end
-- ==== Proof.MlpVal.lean ====
/-
  The gradient of the feed-forward layer: the kernel call and the reference compute the same.
-/
module

public import proofs.«01_k».proof.Defs
public import proofs.«01_k».proof.Proof.MlpKer
public import proofs.«01_k».proof.Proof.Gen.MlpReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

namespace Cert.MlpReferenceIdeal.Hand

open Cert.MlpReferenceIdeal Cert.MlpReferenceIdeal.Gen
open Cert.MlpKernelIdeal.Hand (DA DH W7 W8 col slab relu2)

/-! ## The reference's terms, at an index -/

variable (x : FVec Ideal S4096x1024 .f32) (g : FVec Ideal S1024 .f32) (h dy : FVec Ideal S4096x1024 .f32)

/-- The mean square, the pre-activations, the gradient of the norm's product with its weight, and the part of the gradient through the mean square. -/
abbrev ms : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
abbrev pre (wu : FVec Ideal S1024x4096 .bf16) : FVec Ideal S4096x4096 .f32 :=
  Host.dotGeneral dot_S4096x1024_S1024x4096_S4096x4096_1_0_0_1_n_n none (mulf (mulf x (broadcastInDim S4096x1024 ![0, 1] bcast_S4096x1_S4096x1024_0_1 (Host.rsqrt (ms x)))) (broadcastInDim S4096x1024 ![0, 1] bcast_S1x1024_S4096x1024_0_1 (broadcastInDim S1x1024 ![1] bcast_S1024_S1x1024_1 g))) (extf .f32 wu bitsLt_bf16_f32)
abbrev tt : FVec Ideal S4096x1024 .f32 := mulf h (broadcastInDim S4096x1024 ![0, 1] bcast_S1x1024_S4096x1024_0_1 (broadcastInDim S1x1024 ![1] bcast_S1024_S1x1024_1 g))
abbrev qq : FVec Ideal S4096 .f32 := Host.reduceAdd (Host.divf (mulf (shapeCast _ (Host.reduceAdd (mulf x (tt g h)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms x)) (ms x)))) (broadcastInDim S4096x1 ![] bcast_S_S4096x1 (constant S_ .f32 0x44800000#32))) (constant S_ .f32 0x00000000#32) reducesTo_S4096x1_S4096_d1 h_S_

abbrev grad : FVec Ideal S4096x1024 .f32 :=
  addf (addf (addf dy (mulf (tt g h) (broadcastInDim S4096x1024 ![0, 1] bcast_S4096x1_S4096x1024_0_1 (Host.rsqrt (ms x))))) (mulf x (broadcastInDim S4096x1024 ![0] bcast_S4096_S4096x1024_0 (qq x g h))))
    (mulf (broadcastInDim S4096x1024 ![0] bcast_S4096_S4096x1024_0 (qq x g h)) x)

/-- The norm's gradient as its derivative has it, added to `dy`. -/
theorem grad_apply (i : Fin 4096) (j : Fin 1024) :
    grad x g h dy (ix2 i j) = Cert.Proof.normGrad (fun k => x (ix2 i k)) (fun k => h (ix2 i k) * g (ix1 k)) (dy (ix2 i j)) j := by
  rw [Cert.Proof.normGrad_eq]
  unfold Cert.Proof.meanGrad Cert.Proof.ms
  pointwise
  simp only [Finset.univ_unique, Finset.sum_singleton]

variable (a : FVec Ideal S4096x4096 .f32) (wd : FVec Ideal S4096x1024 .bf16) (wu : FVec Ideal S1024x4096 .bf16)

/-- The gradient of the pre-activations. -/
abbrev dact : FVec Ideal S4096x4096 .f32 :=
  select (cmpf .ogt a (broadcastInDim S4096x4096 ![] bcast_S_S4096x4096 (constant S_ .f32 0x00000000#32)))
    (mulf (Host.dotGeneral dot_S4096x1024_S4096x1024_S4096x4096_1_1_0_0_n_n none dy (extf .f32 wd bitsLt_bf16_f32))
      (mulf (broadcastInDim S4096x4096 ![] bcast_S_S4096x4096 (constant S_ .f32 0x40000000#32)) (maximumf a (broadcastInDim S4096x4096 ![] bcast_S_S4096x4096 (constant S_ .f32 0x00000000#32)))))
    (broadcastInDim S4096x4096 ![] bcast_S_S4096x4096 (constant S_ .f32 0x00000000#32))

/-- Where the pre-activation is not positive, the rectifier's value there is zero, and with it the product. -/
theorem relu2_eq (d a : EReal) : (if a > 0 then relu2 d a else 0) = relu2 d a := by
  split_ifs with h
  · rfl
  · show (0 : EReal) = d * (_ * max a 0)
    rw [max_eq_right (not_lt.mp h), mul_zero, mul_zero]

theorem dact_apply (i k : Fin 4096) : dact dy a wd (ix2 i k) = DA dy a wd i k := by
  refine Eq.trans ?_ (relu2_eq _ _)
  pointwise

theorem dot_apply (d : FVec Ideal S4096x4096 .f32) (i : Fin 4096) (j : Fin 1024) :
    (Host.dotGeneral dot_S4096x4096_S1024x4096_S4096x1024_1_1_0_0_n_n none d (extf .f32 wu bitsLt_bf16_f32) : FVec Ideal S4096x1024 .f32) (ix2 i j)
      = ∑ k : Fin 4096, d (ix2 i k) * wu (ix2 j k) := by
  pointwise

/-- A sum over the pre-activations' columns, slab by slab. -/
theorem sum_slabs (f : Fin 4096 → EReal) : ∑ k, f k = ∑ k, f (col 0 (by omega) k) + ∑ k, f (col 1024 (by omega) k) + ∑ k, f (col 2048 (by omega) k)
    + ∑ k, f (col 3072 (by omega) k) := by
  rw [Fin.sum_univ_two_halves 3072 1024 rfl f, Fin.sum_univ_two_halves 2048 1024 (N := 3072) rfl, Fin.sum_univ_two_halves 1024 1024 (N := 2048) rfl]
  refine congrArg (fun s => s + _ + _ + _) (Finset.sum_congr rfl fun k _ => congrArg f (Fin.ext (Nat.zero_add _).symm))

/-- The gradient of the normalised input. -/
abbrev H : FVec Ideal S4096x1024 .f32 :=
  Host.dotGeneral dot_S4096x4096_S1024x4096_S4096x1024_1_1_0_0_n_n none (dact dy a wd) (extf .f32 wu bitsLt_bf16_f32)

theorem dh_apply (i : Fin 4096) (j : Fin 1024) : H dy a wd wu (ix2 i j) = DH (DA dy a wd) wu i j := by
  refine ((dot_apply wu _ i j).trans (sum_slabs _)).trans ?_
  unfold DH slab
  exact congrArg₂ (· + ·) (congrArg₂ (· + ·) (congrArg₂ (· + ·)
    (Finset.sum_congr rfl fun k _ => congrArg (· * _) (dact_apply dy a wd i _))
    (Finset.sum_congr rfl fun k _ => congrArg (· * _) (dact_apply dy a wd i _)))
    (Finset.sum_congr rfl fun k _ => congrArg (· * _) (dact_apply dy a wd i _)))
    (Finset.sum_congr rfl fun k _ => congrArg (· * _) (dact_apply dy a wd i _))

/-! ## The reference's results -/

theorem res7 : dact dy a wd = W7 (DA dy a wd) := by
  funext y
  obtain ⟨i, k, rfl⟩ : ∃ (i k : Fin 4096), y = ix2 i k := ⟨y 0, y 1, eq_ix2 y⟩
  exact dact_apply dy a wd i k

theorem shape_eq : shapeCast S4096x1024 dy shapeCasts_S4096x1024_S4096x1024 = dy := by
  funext y
  pointwise

theorem res8 : grad x g (H (shapeCast _ dy shapeCasts_S4096x1024_S4096x1024) a wd wu) dy = W8 (DH (DA dy a wd) wu) x (fun k => g (ix1 k)) dy := by
  rw [shape_eq]
  funext y
  obtain ⟨i, j, rfl⟩ : ∃ (i : Fin 4096) (j : Fin 1024), y = ix2 i j := ⟨y 0, y 1, eq_ix2 y⟩
  exact (grad_apply x g _ dy i j).trans (Cert.Proof.normGrad_congr j (fun _ => rfl) (fun k => congrArg (· * _) (dh_apply dy a wd wu i k)) rfl)

end Cert.MlpReferenceIdeal.Hand

namespace Cert.Proof.Mlp

open Cert.MlpKernelIdeal.Hand Cert.MlpReferenceIdeal.Hand
open Cert.MlpKernelIdeal (nD τ sig main_v15 main_arg0 main_arg1 main_arg2)

/-- The kernel call's pre-activations are the reference's. -/
theorem V15 (m : (ℓ : Loc nD τ sig) → Buf (Elt Ideal) ℓ) (c : Dev nD) : Cert.MlpKernelIdeal.Gen.V m c main_v15
    = Cert.MlpReferenceIdeal.Hand.pre (m ((c.tc : Thread nD τ).loc main_arg0)) (m ((c.tc : Thread nD τ).loc main_arg1)) (m ((c.tc : Thread nD τ).loc main_arg2)) := by
  show StableHlo.after (Cert.MlpKernelIdeal.Gen.hostOps0 (F := Ideal)) (fun b => m (c, b)) main_v15 = _
  simp only [Cert.MlpKernelIdeal.Gen.hostOps0, StableHlo.TRef.binary, StableHlo.TRef.nullary, StableHlo.TRef.reshape, StableHlo.TRef.unary, StableHlo.TRef.toBuf, StableHlo.TRef.ofBuf, cast_eq]
  after_results
  rfl

theorem algebraic : Cert.algebraic_MlpKernelIdeal_MlpReferenceIdeal := by
  intro m ρ m' ρ' _ hagree
  refine ⟨_, _, _, (θ_run Cert.MlpKernelIdeal.defs _ _).mono
    (fun _ h c => ⟨(h c).1.trans (final7 m c), (h c).2.1.trans (final8 m c), (h c).2.2.1.trans (final9 m c), (h c).2.2.2.2⟩)
    (Cert.MlpKernelIdeal.Value.run_blocks (F := Ideal) m ρ), ?_⟩
  refine (θ_run Cert.MlpReferenceIdeal.defs _ _).mono (fun _ h c => ?_) (Cert.MlpReferenceIdeal.Value.run (F := Ideal) m' ρ')
  obtain ⟨a0, a1, a2, a3, a4⟩ := hagree c
  have e7 := res7 (m ((c.tc : Thread nD τ).loc Cert.MlpKernelIdeal.main_arg4)) (Cert.MlpReferenceIdeal.Hand.pre (m ((c.tc : Thread nD τ).loc main_arg0)) (m ((c.tc : Thread nD τ).loc main_arg1)) (m ((c.tc : Thread nD τ).loc main_arg2))) (m ((c.tc : Thread nD τ).loc Cert.MlpKernelIdeal.main_arg3))
  have e8 := res8 (m ((c.tc : Thread nD τ).loc main_arg0)) (m ((c.tc : Thread nD τ).loc main_arg1)) (m ((c.tc : Thread nD τ).loc Cert.MlpKernelIdeal.main_arg4)) (Cert.MlpReferenceIdeal.Hand.pre (m ((c.tc : Thread nD τ).loc main_arg0)) (m ((c.tc : Thread nD τ).loc main_arg1)) (m ((c.tc : Thread nD τ).loc main_arg2))) (m ((c.tc : Thread nD τ).loc Cert.MlpKernelIdeal.main_arg3)) (m ((c.tc : Thread nD τ).loc main_arg2))
  unfold R8 dh da
  rw [V15 m c]
  refine ⟨(h c).1.trans ?_, (h c).2.1.trans ?_, (h c).2.2.1.trans ?_, (h c).2.2.2⟩
  · rw [a0, a1, a2, a3, a4]
    exact e7
  · unfold Cert.MlpReferenceIdeal.Value.res_main_v76
    rw [a0, a1, a2, a3, a4]
    exact e8
  · unfold Cert.MlpReferenceIdeal.Value.res_main_v78
    rw [a0, a1, a2, a3, a4]
    exact e8

end Cert.Proof.Mlp
end
-- ==== Proof.BackKer.lean ====
/-
  The gradient of the input projection and of the norm before it: the value of the kernel call.
-/
module

public import proofs.«01_k».proof.Defs
public import proofs.«01_k».proof.Proof.Norm
public import proofs.«01_k».proof.Proof.Gen.BackKernelIdeal.Value
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.BackKernelIdeal.Hand

open Cert.Proof Cert.BackKernelIdeal Cert.BackKernelIdeal.Gen

/-! ## What the stores hold, at an index -/

theorem pay5_apply (a : FVec Ideal S512x1024 .f32) (x : Vec Ideal S512x1024 .f32) (g : Vec Ideal S1x1024 .f32) (d : Vec Ideal S512x1024 .f32) (p : Fin 512) (q : Fin 1024) :
    k0_pay5 a x g d (ix2 p q) = normGrad (fun k => x (ix2 p k)) (fun k => a (ix2 p k) * g (ix2 0 k)) (d (ix2 p q)) q := by
  unfold normGrad ms
  unfold_payloads
  pointwise

theorem pay1_apply (h : Vec Ideal S512x1024 .f32) (s1 s2 s3 s4 s5 s6 : Vec Ideal S512x1024 .bf16) (w1 w2 w3 w4 w5 w6 : Vec Ideal S1024x1024 .bf16) (p : Fin 512) (q : Fin 1024) :
    k0_pay1 h s1 w1 s2 w2 s3 w3 s4 w4 s5 w5 s6 w6 (ix2 p q) = h (ix2 p q) + (∑ k : Fin 1024, s1 (ix2 p k) * w1 (ix2 q k)) + (∑ k : Fin 1024, s2 (ix2 p k) * w2 (ix2 q k))
      + (∑ k : Fin 1024, s3 (ix2 p k) * w3 (ix2 q k)) + (∑ k : Fin 1024, s4 (ix2 p k) * w4 (ix2 q k)) + (∑ k : Fin 1024, s5 (ix2 p k) * w5 (ix2 q k)) + (∑ k : Fin 1024, s6 (ix2 p k) * w6 (ix2 q k)) := by
  unfold_payloads
  pointwise

/-! ## The result, as a function of whole arrays -/

/-- Column `k` of the slab of 1024 columns that begins at column `o`. -/
def col {n : ℕ} (o : ℕ) (h : o + 1024 ≤ n) (k : Fin 1024) : Fin n := ⟨o + k.val, by have := k.isLt; omega⟩

/-- The product of a slab of the projection's gradients with the same slab of the weight. -/
def slab {n : ℕ} (d : Fin 4096 → Fin n → EReal) (w : S1024x6144.Idx → EReal) (o o' : ℕ) (h : o + 1024 ≤ n) (h' : o' + 1024 ≤ 6144) (i : Fin 4096) (j : Fin 1024) : EReal :=
  ∑ k : Fin 1024, d i (col o h k) * w (ix2 j (col o' h' k))

/-- The gradient of the normalised input. -/
def DH (dqk : S4096x2048.Idx → EReal) (dv : S4096x1024.Idx → EReal) (dc : S4096x3072.Idx → EReal) (w : S1024x6144.Idx → EReal) (h : S4096x1024.Idx → EReal) (i : Fin 4096) (j : Fin 1024) : EReal :=
  h (ix2 i j) + slab (fun i k => dqk (ix2 i k)) w 0 0 (by omega) (by omega) i j + slab (fun i k => dqk (ix2 i k)) w 1024 1024 (by omega) (by omega) i j
    + slab (fun i k => dv (ix2 i k)) w 0 2048 (by omega) (by omega) i j + slab (fun i k => dc (ix2 i k)) w 0 3072 (by omega) (by omega) i j
    + slab (fun i k => dc (ix2 i k)) w 1024 4096 (by omega) (by omega) i j + slab (fun i k => dc (ix2 i k)) w 2048 5120 (by omega) (by omega) i j

def W8 (dh : Fin 4096 → Fin 1024 → EReal) (x : S4096x1024.Idx → EReal) (g : Fin 1024 → EReal) (dx : S4096x1024.Idx → EReal) : S4096x1024.Idx → EReal := fun i =>
  normGrad (fun k => x (ix2 (i 0) k)) (fun k => dh (i 0) k * g k) (dx (ix2 (i 0) (i 1))) (i 1)

/-! ## The staged blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 2048) :
    iblk m c 0 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [idx0]; simp
  | ⟨1, _⟩ => show win0_0.index t 1 * 2048 + 1 * q.val = q.val; rw [idx0]; simp

theorem blk1 (c : Dev nD) (t : Fin cfg0.N) (p : Fin 512) (q : Fin 1024) :
    iblk m c 1 t (ix2 p q) = m ((c : Thread nD τ).loc main_arg1) (ix2 (row t p) q) := by
  unfold iblk
  rw [View.read_apply]
  show V m c main_arg1 _ = _
  rw [V_main_arg1]
  congr 1
  funext a
  apply Fin.ext
  match a with
  | ⟨0, _⟩ => show win0_1.index t 0 * 512 + 1 * p.val = t.val * 512 + p.val; rw [idx1]; simp
  | ⟨1, _⟩ => show win0_1.index t 1 * 1024 + 1 * q.val = q.val; rw [idx1]; simp

theorem blk2 (c : Dev nD) (t : Fin cfg0.N) (p : Fin 512) (q : Fin 3072) :
    iblk m c 2 t (ix2 p q) = m ((c : Thread nD τ).loc main_arg2) (ix2 (row t p) q) := by
  unfold iblk
  rw [View.read_apply]
  show V m c main_arg2 _ = _
  rw [V_main_arg2]
  congr 1
  funext a
  apply Fin.ext
  match a with
  | ⟨0, _⟩ => show win0_2.index t 0 * 512 + 1 * p.val = t.val * 512 + p.val; rw [idx2]; simp
  | ⟨1, _⟩ => show win0_2.index t 1 * 3072 + 1 * q.val = q.val; rw [idx2]; simp

theorem blk3 (c : Dev nD) (t : Fin cfg0.N) (p : Fin 1024) (q : Fin 6144) :
    iblk m c 3 t (ix2 p q) = m ((c : Thread nD τ).loc main_arg3) (ix2 p q) := by
  unfold iblk
  rw [View.read_apply]
  show V m c main_arg3 _ = _
  rw [V_main_arg3]
  congr 1
  funext a
  apply Fin.ext
  match a with
  | ⟨0, _⟩ => show win0_3.index t 0 * 1024 + 1 * p.val = p.val; rw [idx3]; simp
  | ⟨1, _⟩ => show win0_3.index t 1 * 6144 + 1 * q.val = q.val; rw [idx3]; simp

theorem blk4 (c : Dev nD) (t : Fin cfg0.N) (p : Fin 512) (q : Fin 1024) :
    iblk m c 4 t (ix2 p q) = m ((c : Thread nD τ).loc main_arg4) (ix2 (row t p) q) := by
  unfold iblk
  rw [View.read_apply]
  show V m c main_arg4 _ = _
  rw [V_main_arg4]
  congr 1
  funext a
  apply Fin.ext
  match a with
  | ⟨0, _⟩ => show win0_4.index t 0 * 512 + 1 * p.val = t.val * 512 + p.val; rw [idx4]; simp
  | ⟨1, _⟩ => show win0_4.index t 1 * 1024 + 1 * q.val = q.val; rw [idx4]; simp

theorem blk5 (c : Dev nD) (t : Fin cfg0.N) (p : Fin 512) (q : Fin 1024) :
    iblk m c 5 t (ix2 p q) = m ((c : Thread nD τ).loc main_arg5) (ix2 (row t p) q) := by
  unfold iblk
  rw [View.read_apply]
  show V m c main_arg5 _ = _
  rw [V_main_arg5]
  congr 1
  funext a
  apply Fin.ext
  match a with
  | ⟨0, _⟩ => show win0_5.index t 0 * 512 + 1 * p.val = t.val * 512 + p.val; rw [idx5]; simp
  | ⟨1, _⟩ => show win0_5.index t 1 * 1024 + 1 * q.val = q.val; rw [idx5]; simp

theorem blk6 (c : Dev nD) (t : Fin cfg0.N) (p : Fin 1) (q : Fin 1024) :
    iblk m c 6 t (ix2 p q) = V m c main_v0 (ix2 p q) := by
  unfold iblk
  rw [View.read_apply]
  show V m c main_v0 _ = _
  congr 1
  funext a
  apply Fin.ext
  match a with
  | ⟨0, _⟩ => show win0_6.index t 0 * 1 + 1 * p.val = p.val; rw [idx6]; simp
  | ⟨1, _⟩ => show win0_6.index t 1 * 1024 + 1 * q.val = q.val; rw [idx6]; simp

theorem blk7 (c : Dev nD) (t : Fin cfg0.N) (p : Fin 512) (q : Fin 1024) :
    iblk m c 7 t (ix2 p q) = m ((c : Thread nD τ).loc main_arg7) (ix2 (row t p) q) := by
  unfold iblk
  rw [View.read_apply]
  show V m c main_arg7 _ = _
  rw [V_main_arg7]
  congr 1
  funext a
  apply Fin.ext
  match a with
  | ⟨0, _⟩ => show win0_7.index t 0 * 512 + 1 * p.val = t.val * 512 + p.val; rw [idx7]; simp
  | ⟨1, _⟩ => show win0_7.index t 1 * 1024 + 1 * q.val = q.val; rw [idx7]; simp

theorem V0 (c : Dev nD) (q : Fin 1024) : V m c main_v0 (ix2 0 q) = m ((c : Thread nD τ).loc main_arg6) (ix1 q) := by
  have e : V m c main_v0 = shapeCast S1x1024 (m ((c : Thread nD τ).loc main_arg6)) shapeCasts_S1024_S1x1024 := by
    show StableHlo.after (hostOps0 (F := Ideal)) (fun b => m (c, b)) main_v0 = _
    simp only [hostOps0, StableHlo.TRef.reshape, StableHlo.TRef.unary, StableHlo.TRef.toBuf, StableHlo.TRef.ofBuf, cast_eq]
    after_results
    rfl
  rw [e]
  pointwise

/-- A slab of a block's columns. -/
theorem ld_col {r n : ℕ} (X : Vec Ideal ⟨2, ![r, n]⟩ .bf16) (o : ℕ) (h : o + 1024 ≤ n) (inb : _) (p : Fin r) (q : Fin 1024) :
    View.ld X (Rect.unit ![0, o] ![r, 1024] inb) (ix2 p q) = X (ix2 p (col o h q)) := by
  refine congrArg X (funext fun a => Fin.ext ?_)
  match a with
  | ⟨0, _⟩ => show 0 + 1 * p.val = p.val; omega
  | ⟨1, _⟩ => show o + 1 * q.val = o + q.val; omega

/-! ## What a point's store holds -/

theorem slab_apply {n : ℕ} (X : Vec Ideal ⟨2, ![512, n]⟩ .bf16) (W : Vec Ideal S1024x6144 .bf16) (D : Fin 4096 → Fin n → EReal) (w : S1024x6144.Idx → EReal)
    (t : Fin cfg0.N) (p : Fin 512) (q : Fin 1024) (hX : ∀ k, X (ix2 p k) = D (row t p) k) (hW : ∀ k, W (ix2 q k) = w (ix2 q k))
    (o o' : ℕ) (h : o + 1024 ≤ n) (h' : o' + 1024 ≤ 6144) (inb inb' : _) :
    ∑ k : Fin 1024, (View.ld X (Rect.unit ![0, o] ![512, 1024] inb) (ix2 p k) : EReal) * View.ld W (Rect.unit ![0, o'] ![1024, 1024] inb') (ix2 q k)
      = slab D w o o' h h' (row t p) q :=
  Finset.sum_congr rfl fun k _ => congrArg₂ (· * ·) ((ld_col X o h inb p k).trans (hX _)) ((ld_col W o' h' inb' q k).trans (hW _))

theorem slab_whole (X : Vec Ideal S512x1024 .bf16) (W : Vec Ideal S1024x6144 .bf16) (D : Fin 4096 → Fin 1024 → EReal) (w : S1024x6144.Idx → EReal)
    (t : Fin cfg0.N) (p : Fin 512) (q : Fin 1024) (hX : ∀ k, X (ix2 p k) = D (row t p) k) (hW : ∀ k, W (ix2 q k) = w (ix2 q k))
    (o' : ℕ) (h' : o' + 1024 ≤ 6144) (inb' : _) :
    ∑ k : Fin 1024, (X (ix2 p k) : EReal) * View.ld W (Rect.unit ![0, o'] ![1024, 1024] inb') (ix2 q k)
      = slab D w 0 o' (by omega) h' (row t p) q :=
  Finset.sum_congr rfl fun k _ => congrArg₂ (· * ·) ((hX k).trans (congrArg (D _) (Fin.ext (Nat.zero_add _).symm))) ((ld_col W o' h' inb' q k).trans (hW _))

abbrev dqk (c : Dev nD) (t : Fin cfg0.N) : Vec Ideal S512x2048 .bf16 := iblk m c 0 t
abbrev dv (c : Dev nD) (t : Fin cfg0.N) : Vec Ideal S512x1024 .bf16 := iblk m c 1 t
abbrev dc (c : Dev nD) (t : Fin cfg0.N) : Vec Ideal S512x3072 .bf16 := iblk m c 2 t
abbrev w (c : Dev nD) (t : Fin cfg0.N) : Vec Ideal S1024x6144 .bf16 := iblk m c 3 t

/-- The sum of the six products and of the gates' part. -/
abbrev acc (c : Dev nD) (t : Fin cfg0.N) : FVec Ideal S512x1024 .f32 :=
  k0_pay1 (iblk m c 4 t) (View.ld (dqk m c t) (Rect.unit ![0, 0] ![512, 1024] inb_S512x2048_S512x1024_0_0))
    (View.ld (w m c t) (Rect.unit ![0, 0] ![1024, 1024] inb_S1024x6144_S1024x1024_0_0))
    (View.ld (dqk m c t) (Rect.unit ![0, 1024] ![512, 1024] inb_S512x2048_S512x1024_0_1024))
    (View.ld (w m c t) (Rect.unit ![0, 1024] ![1024, 1024] inb_S1024x6144_S1024x1024_0_1024)) (dv m c t)
    (View.ld (w m c t) (Rect.unit ![0, 2048] ![1024, 1024] inb_S1024x6144_S1024x1024_0_2048))
    (View.ld (dc m c t) (Rect.unit ![0, 0] ![512, 1024] inb_S512x3072_S512x1024_0_0))
    (View.ld (w m c t) (Rect.unit ![0, 3072] ![1024, 1024] inb_S1024x6144_S1024x1024_0_3072))
    (View.ld (dc m c t) (Rect.unit ![0, 1024] ![512, 1024] inb_S512x3072_S512x1024_0_1024))
    (View.ld (w m c t) (Rect.unit ![0, 4096] ![1024, 1024] inb_S1024x6144_S1024x1024_0_4096))
    (View.ld (dc m c t) (Rect.unit ![0, 2048] ![512, 1024] inb_S512x3072_S512x1024_0_2048))
    (View.ld (w m c t) (Rect.unit ![0, 5120] ![1024, 1024] inb_S1024x6144_S1024x1024_0_5120))

/-- The gradient of the normalised input, of the arguments on a device. -/
def dh (c : Dev nD) : Fin 4096 → Fin 1024 → EReal :=
  DH (m ((c : Thread nD τ).loc main_arg0)) (m ((c : Thread nD τ).loc main_arg1)) (m ((c : Thread nD τ).loc main_arg2)) (m ((c : Thread nD τ).loc main_arg3)) (m ((c : Thread nD τ).loc main_arg4))

theorem acc_apply (c : Dev nD) (t : Fin cfg0.N) (p : Fin 512) (q : Fin 1024) : acc m c t (ix2 p q) = dh m c (row t p) q := by
  refine (pay1_apply _ _ _ _ _ _ _ _ _ _ _ _ _ p q).trans ?_
  have q3 : ∀ k, w m c t (ix2 q k) = m ((c : Thread nD τ).loc main_arg3) (ix2 q k) := fun k => blk3 m c t q k
  have q0 := slab_apply (dqk m c t) (w m c t) (fun i k => m ((c : Thread nD τ).loc main_arg0) (ix2 i k)) _ t p q (fun k => blk0 m c t p k) q3
  have q2 := slab_apply (dc m c t) (w m c t) (fun i k => m ((c : Thread nD τ).loc main_arg2) (ix2 i k)) _ t p q (fun k => blk2 m c t p k) q3
  exact congrArg₂ (· + ·) (congrArg₂ (· + ·) (congrArg₂ (· + ·) (congrArg₂ (· + ·) (congrArg₂ (· + ·) (congrArg₂ (· + ·)
    (blk4 m c t p q) (q0 0 0 (by omega) (by omega) _ _)) (q0 1024 1024 (by omega) (by omega) _ _))
    (slab_whole (dv m c t) (w m c t) (fun i k => m ((c : Thread nD τ).loc main_arg1) (ix2 i k)) _ t p q (fun k => blk1 m c t p k) q3 2048 (by omega) _))
    (q2 0 3072 (by omega) (by omega) _ _)) (q2 1024 4096 (by omega) (by omega) _ _)) (q2 2048 5120 (by omega) (by omega) _ _)

theorem store_apply (c : Dev nD) (t : Fin cfg0.N) (p : Fin 512) (q : Fin 1024) :
    k0_pay5 (acc m c t) (iblk m c 5 t) (iblk m c 6 t) (iblk m c 7 t) (ix2 p q)
      = W8 (dh m c) (m ((c : Thread nD τ).loc main_arg5)) (fun k => m ((c : Thread nD τ).loc main_arg6) (ix1 k)) (m ((c : Thread nD τ).loc main_arg7)) (ix2 (row t p) q) :=
  (pay5_apply _ _ _ _ p q).trans (normGrad_congr q (fun k => blk5 m c t p k)
    (fun k => congrArg₂ (· * ·) (acc_apply m c t p k) ((blk6 m c t 0 k).trans (V0 m c k))) (blk7 m c t p q))

theorem out8 (c : Dev nD) (t : Fin cfg0.N) (p : Fin 512) (q : Fin 1024) :
    (outsAt0 m c t.val t.isLt).1 (ix2 p q)
      = W8 (dh m c) (m ((c : Thread nD τ).loc main_arg5)) (fun k => m ((c : Thread nD τ).loc main_arg6) (ix1 k)) (m ((c : Thread nD τ).loc main_arg7)) (ix2 (row t p) q) := by
  by_cases h : t.val % 8 = 0
  · rw [outsAt0_A m c t h]
    frame_out
    exact store_apply m c t p q
  · rw [outsAt0_B m c t h]
    frame_out
    exact store_apply m c t p q

/-! ## The result array -/

theorem final8 (c : Dev nD) : (dats m 0 c).arrAt 8 cfg0.N
    = W8 (dh m c) (m ((c : Thread nD τ).loc main_arg5)) (fun k => m ((c : Thread nD τ).loc main_arg6) (ix1 k)) (m ((c : Thread nD τ).loc main_arg7)) := by
  refine (dats m 0 c).arrAt_eq_of_covers 8 _ (by decide +kernel) fun t hf y => ?_
  obtain ⟨p, q, rfl⟩ : ∃ (p : Fin 512) (q : Fin 1024), y = ix2 p q := ⟨y 0, y 1, eq_ix2 y⟩
  have e : ((View.whole main_v1_0).slice (win0_8.rect t)).emb (ix2 p q) = ix2 (row t p) q := by
    funext a
    apply Fin.ext
    match a with
    | ⟨0, _⟩ => show win0_8.index t 0 * 512 + 1 * p.val = t.val * 512 + p.val; rw [idx8]; simp
    | ⟨1, _⟩ => show win0_8.index t 1 * 1024 + 1 * q.val = q.val; rw [idx8]; simp
  blk_simp
  rw [after0_8]
  exact (out8 m c t p q).trans (congrArg (W8 (dh m c) (m ((c : Thread nD τ).loc main_arg5)) (fun k => m ((c : Thread nD τ).loc main_arg6) (ix1 k)) (m ((c : Thread nD τ).loc main_arg7))) e).symm

end Cert.BackKernelIdeal.Hand
end
-- ==== Proof.BackVal.lean ====
/-
  The gradient of the input projection and of the norm before it: the kernel call and the reference compute the same.
-/
module

public import proofs.«01_k».proof.Defs
public import proofs.«01_k».proof.Proof.BackKer
public import proofs.«01_k».proof.Proof.Gen.BackReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem

namespace Cert.BackReferenceIdeal.Hand

open Cert.BackReferenceIdeal Cert.BackReferenceIdeal.Gen
open Cert.BackKernelIdeal.Hand (DH W8 col slab)

/-! ## The reference's terms, at an index -/

variable (x : FVec Ideal S4096x1024 .f32) (g : FVec Ideal S1024 .f32) (h dy : FVec Ideal S4096x1024 .f32)

/-- The mean square, the gradient of the norm's product with its weight, and the part of the gradient through the mean square. -/
abbrev ms : FVec Ideal S4096x1 .f32 := addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
abbrev tt : FVec Ideal S4096x1024 .f32 := mulf h (broadcastInDim S4096x1024 ![0, 1] bcast_S1x1024_S4096x1024_0_1 (broadcastInDim S1x1024 ![1] bcast_S1024_S1x1024_1 g))
abbrev qq : FVec Ideal S4096 .f32 := Host.reduceAdd (Host.divf (mulf (shapeCast _ (Host.reduceAdd (mulf x (tt g h)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms x)) (ms x)))) (broadcastInDim S4096x1 ![] bcast_S_S4096x1 (constant S_ .f32 0x44800000#32))) (constant S_ .f32 0x00000000#32) reducesTo_S4096x1_S4096_d1 h_S_

/-- The norm's gradient as its derivative has it, added to `dy`. -/
theorem res_apply (i : Fin 4096) (j : Fin 1024) :
    addf dy (addf (addf (mulf (tt g h) (broadcastInDim S4096x1024 ![0, 1] bcast_S4096x1_S4096x1024_0_1 (Host.rsqrt (ms x)))) (mulf x (broadcastInDim S4096x1024 ![0] bcast_S4096_S4096x1024_0 (qq x g h))))
      (mulf (broadcastInDim S4096x1024 ![0] bcast_S4096_S4096x1024_0 (qq x g h)) x)) (ix2 i j)
      = Cert.Proof.normGrad (fun k => x (ix2 i k)) (fun k => h (ix2 i k) * g (ix1 k)) (dy (ix2 i j)) j := by
  rw [Cert.Proof.normGrad_eq]
  unfold Cert.Proof.meanGrad Cert.Proof.ms
  pointwise
  simp only [Finset.univ_unique, Finset.sum_singleton, add_assoc]

variable (dqk : FVec Ideal S4096x2048 .bf16) (dv : FVec Ideal S4096x1024 .bf16) (dc : FVec Ideal S4096x3072 .bf16) (w : FVec Ideal S1024x6144 .bf16)

abbrev cat : FVec Ideal S4096x6144 .bf16 :=
  concatenate S4096x6144 1 [⟨S4096x2048, dqk⟩, ⟨S4096x1024, dv⟩, ⟨S4096x3072, dc⟩] concatenates_S4096x2048_S4096x1024_S4096x3072_S4096x6144_d1

theorem dot_apply (i : Fin 4096) (j : Fin 1024) :
    (Host.dotGeneral dot_S4096x6144_S1024x6144_S4096x1024_1_1_0_0_n_n none (extf .f32 (cat dqk dv dc) bitsLt_bf16_f32) (extf .f32 w bitsLt_bf16_f32) : FVec Ideal S4096x1024 .f32) (ix2 i j)
      = ∑ k : Fin 6144, cat dqk dv dc (ix2 i k) * w (ix2 j k) := by
  pointwise

theorem cat_apply (i : Fin 4096) (k : Fin 6144) : cat dqk dv dc (ix2 i k)
    = if h : k.val < 2048 then dqk (ix2 i ⟨k.val, h⟩)
      else if h : k.val - 2048 < 1024 then dv (ix2 i ⟨k.val - 2048, h⟩) else dc (ix2 i ⟨k.val - 2048 - 1024, by have := k.isLt; omega⟩) := by
  pointwise

theorem cat_qk (i : Fin 4096) (o : ℕ) (h : o + 1024 ≤ 2048) (k : Fin 1024) : cat dqk dv dc (ix2 i (col o (by omega) k)) = dqk (ix2 i (col o h k)) := by
  have := k.isLt
  rw [cat_apply, dif_pos (by show o + k.val < 2048; omega)]
  rfl

theorem cat_v (i : Fin 4096) (k : Fin 1024) : cat dqk dv dc (ix2 i (col 2048 (by omega) k)) = dv (ix2 i (col 0 (by omega) k)) := by
  have := k.isLt
  rw [cat_apply, dif_neg (by show ¬ 2048 + k.val < 2048; omega), dif_pos (by show 2048 + k.val - 2048 < 1024; omega)]
  exact congrArg (fun j => dv (ix2 i j)) (Fin.ext (by show 2048 + k.val - 2048 = 0 + k.val; omega))

theorem cat_c (i : Fin 4096) (o : ℕ) (h : o + 1024 ≤ 3072) (k : Fin 1024) : cat dqk dv dc (ix2 i (col (3072 + o) (by omega) k)) = dc (ix2 i (col o h k)) := by
  have := k.isLt
  rw [cat_apply, dif_neg (by show ¬ 3072 + o + k.val < 2048; omega), dif_neg (by show ¬ 3072 + o + k.val - 2048 < 1024; omega)]
  exact congrArg (fun j => dc (ix2 i j)) (Fin.ext (by show 3072 + o + k.val - 2048 - 1024 = o + k.val; omega))

/-- A sum over the projection's columns, slab by slab. -/
theorem sum_slabs (f : Fin 6144 → EReal) : ∑ k, f k = ∑ k, f (col 0 (by omega) k) + ∑ k, f (col 1024 (by omega) k) + ∑ k, f (col 2048 (by omega) k)
    + ∑ k, f (col 3072 (by omega) k) + ∑ k, f (col 4096 (by omega) k) + ∑ k, f (col 5120 (by omega) k) := by
  rw [Fin.sum_univ_two_halves 5120 1024 rfl f, Fin.sum_univ_two_halves 4096 1024 (N := 5120) rfl, Fin.sum_univ_two_halves 3072 1024 (N := 4096) rfl,
    Fin.sum_univ_two_halves 2048 1024 (N := 3072) rfl, Fin.sum_univ_two_halves 1024 1024 (N := 2048) rfl]
  refine congrArg (fun s => s + _ + _ + _ + _ + _) (Finset.sum_congr rfl fun k _ => congrArg f (Fin.ext (Nat.zero_add _).symm))

abbrev H : FVec Ideal S4096x1024 .f32 :=
  addf h (Host.dotGeneral dot_S4096x6144_S1024x6144_S4096x1024_1_1_0_0_n_n none (extf .f32 (cat dqk dv dc) bitsLt_bf16_f32) (extf .f32 w bitsLt_bf16_f32))

/-- The gradient of the normalised input. -/
theorem dh_apply (i : Fin 4096) (j : Fin 1024) : H h dqk dv dc w (ix2 i j) = DH dqk dv dc w h i j := by
  refine (congrArg (h (ix2 i j) + ·) ((dot_apply dqk dv dc w i j).trans (sum_slabs _))).trans ?_
  unfold DH slab
  simp only [← add_assoc]
  exact congrArg₂ (· + ·) (congrArg₂ (· + ·) (congrArg₂ (· + ·) (congrArg₂ (· + ·) (congrArg₂ (· + ·) (congrArg (_ + ·)
    (Finset.sum_congr rfl fun k _ => congrArg (· * _) (cat_qk dqk dv dc i 0 (by omega) k)))
    (Finset.sum_congr rfl fun k _ => congrArg (· * _) (cat_qk dqk dv dc i 1024 (by omega) k)))
    (Finset.sum_congr rfl fun k _ => congrArg (· * _) (cat_v dqk dv dc i k)))
    (Finset.sum_congr rfl fun k _ => congrArg (· * _) (cat_c dqk dv dc i 0 (by omega) k)))
    (Finset.sum_congr rfl fun k _ => congrArg (· * _) (cat_c dqk dv dc i 1024 (by omega) k)))
    (Finset.sum_congr rfl fun k _ => congrArg (· * _) (cat_c dqk dv dc i 2048 (by omega) k))

/-- The reference's result. -/
theorem res8 : addf dy (addf (addf (mulf (tt g (H h dqk dv dc w)) (broadcastInDim S4096x1024 ![0, 1] bcast_S4096x1_S4096x1024_0_1 (Host.rsqrt (ms x)))) (mulf x (broadcastInDim S4096x1024 ![0] bcast_S4096_S4096x1024_0 (qq x g (H h dqk dv dc w)))))
      (mulf (broadcastInDim S4096x1024 ![0] bcast_S4096_S4096x1024_0 (qq x g (H h dqk dv dc w))) x))
    = W8 (DH dqk dv dc w h) x (fun k => g (ix1 k)) dy := by
  funext y
  obtain ⟨i, j, rfl⟩ : ∃ (i : Fin 4096) (j : Fin 1024), y = ix2 i j := ⟨y 0, y 1, eq_ix2 y⟩
  exact (res_apply x g _ dy i j).trans (Cert.Proof.normGrad_congr j (fun _ => rfl) (fun k => congrArg (· * _) (dh_apply h dqk dv dc w i k)) rfl)

end Cert.BackReferenceIdeal.Hand

namespace Cert.Proof.Back

open Cert.BackKernelIdeal.Hand Cert.BackReferenceIdeal.Hand

theorem algebraic : Cert.algebraic_BackKernelIdeal_BackReferenceIdeal := by
  intro m ρ m' ρ' _ hagree
  refine ⟨_, (θ_run Cert.BackKernelIdeal.defs _ _).mono (fun _ h c => ⟨(h c).1.trans (final8 m c), (h c).2.2⟩)
    (Cert.BackKernelIdeal.Value.run_blocks (F := Ideal) m ρ), ?_⟩
  refine (θ_run Cert.BackReferenceIdeal.defs _ _).mono (fun _ h c => ⟨(h c).1.trans ?_, (h c).2⟩) (Cert.BackReferenceIdeal.Value.run (F := Ideal) m' ρ')
  obtain ⟨a0, a1, a2, a3, a4, a5, a6, a7⟩ := hagree c
  unfold Cert.BackReferenceIdeal.Value.res_main_v38
  rw [a0, a1, a2, a3, a4, a5, a6, a7]
  exact res8 _ _ _ _ _ _ _ _

end Cert.Proof.Back
end
-- ==== Proof.ProjVal.lean ====
/-
  The input projection: the kernel call and the reference compute the same.
-/
module

public import proofs.«01_k».proof.Defs
public import proofs.«01_k».proof.Proof.Gen.ProjKernelIdeal.Value
public import proofs.«01_k».proof.Proof.Gen.ProjReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.ProjKernelIdeal.Hand

open Cert.ProjKernelIdeal Cert.ProjKernelIdeal.Gen

/-! ## What the stores hold, at an index -/

/-- One store: the block's rows times a slab of the weight's columns. The six stores differ in the slab only. -/
theorem pay_apply (x : Vec Ideal S512x1024 .bf16) (w : Vec Ideal S1024x1024 .bf16) (p : Fin 512) (q : Fin 1024) :
    k0_pay1 x w (ix2 p q) = ∑ k : Fin 1024, x (ix2 p k) * w (ix2 k q) := by
  unfold_payloads
  pointwise

/-- The projection. -/
def W (h : S4096x1024.Idx → EReal) (w : S1024x6144.Idx → EReal) : S4096x6144.Idx → EReal := fun i =>
  ∑ k : Fin 1024, h (ix2 (i 0) k) * w (ix2 k (i 1))

/-- Place `k` of the slab of 1024 that begins at `o`. -/
def col (o : ℕ) (h : o + 1024 ≤ 6144) (k : Fin 1024) : Fin 6144 := ⟨o + k.val, by have := k.isLt; omega⟩

/-! ## The staged blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 1024) (q : Fin 6144) :
    iblk m c 1 t (ix2 p q) = m ((c : Thread nD τ).loc main_arg1) (ix2 p q) := by
  unfold iblk
  rw [View.read_apply]
  show V m c main_arg1 _ = _
  rw [V_main_arg1]
  congr 1
  funext a
  apply Fin.ext
  match a with
  | ⟨0, _⟩ => show win0_1.index t 0 * 1024 + 1 * p.val = p.val; rw [idx1]; simp
  | ⟨1, _⟩ => show win0_1.index t 1 * 6144 + 1 * q.val = q.val; rw [idx1]; simp

/-- A slab of the weight's columns. -/
theorem ld_col (X : Vec Ideal S1024x6144 .bf16) (o : ℕ) (h : o + 1024 ≤ 6144) (inb : _) (p q : Fin 1024) :
    View.ld X (Rect.unit ![0, o] ![1024, 1024] inb) (ix2 p q) = X (ix2 p (col o h q)) := by
  refine congrArg X (funext fun a => Fin.ext ?_)
  match a with
  | ⟨0, _⟩ => show 0 + 1 * p.val = p.val; omega
  | ⟨1, _⟩ => show o + 1 * q.val = o + q.val; omega

/-! ## What a point's stores hold -/

abbrev inp (c : Dev nD) (t : Fin cfg0.N) : Vec Ideal S512x1024 .bf16 := iblk m c 0 t
abbrev wei (c : Dev nD) (t : Fin cfg0.N) : Vec Ideal S1024x6144 .bf16 := iblk m c 1 t

/-- The projection of the arrays on a device. -/
abbrev R (c : Dev nD) : S4096x6144.Idx → EReal := W (m ((c : Thread nD τ).loc main_arg0)) (m ((c : Thread nD τ).loc main_arg1))

theorem slab_apply (c : Dev nD) (t : Fin cfg0.N) (o : ℕ) (h : o + 1024 ≤ 6144) (inb : _) (p : Fin 512) (q : Fin 1024) :
    k0_pay1 (inp m c t) (View.ld (wei m c t) (Rect.unit ![0, o] ![1024, 1024] inb)) (ix2 p q) = R m c (ix2 (row t p) (col o h q)) :=
  (pay_apply _ _ p q).trans (Finset.sum_congr rfl fun k _ => congrArg₂ (· * ·) (blk0 m c t p k) ((ld_col (wei m c t) o h inb k q).trans (blk1 m c t k _)))

theorem store2 (c : Dev nD) (t : Fin cfg0.N) (p : Fin 512) (q : Fin 6144) :
    (View.canon (Val := Elt Ideal) (s := S512x6144) (e := .bf16) [
        ⟨Rect.unit ![0, 5120] ![512, 1024] inb_S512x6144_S512x1024_0_5120, k0_pay6 (inp m c t) (View.ld (wei m c t) (Rect.unit ![0, 5120] ![1024, 1024] inb_S1024x6144_S1024x1024_0_5120))⟩,
        ⟨Rect.unit ![0, 4096] ![512, 1024] inb_S512x6144_S512x1024_0_4096, k0_pay5 (inp m c t) (View.ld (wei m c t) (Rect.unit ![0, 4096] ![1024, 1024] inb_S1024x6144_S1024x1024_0_4096))⟩,
        ⟨Rect.unit ![0, 3072] ![512, 1024] inb_S512x6144_S512x1024_0_3072, k0_pay4 (inp m c t) (View.ld (wei m c t) (Rect.unit ![0, 3072] ![1024, 1024] inb_S1024x6144_S1024x1024_0_3072))⟩,
        ⟨Rect.unit ![0, 2048] ![512, 1024] inb_S512x6144_S512x1024_0_2048, k0_pay3 (inp m c t) (View.ld (wei m c t) (Rect.unit ![0, 2048] ![1024, 1024] inb_S1024x6144_S1024x1024_0_2048))⟩,
        ⟨Rect.unit ![0, 1024] ![512, 1024] inb_S512x6144_S512x1024_0_1024, k0_pay2 (inp m c t) (View.ld (wei m c t) (Rect.unit ![0, 1024] ![1024, 1024] inb_S1024x6144_S1024x1024_0_1024))⟩,
        ⟨Rect.unit ![0, 0] ![512, 1024] inb_S512x6144_S512x1024_0_0, k0_pay1 (inp m c t) (View.ld (wei m c t) (Rect.unit ![0, 0] ![1024, 1024] inb_S1024x6144_S1024x1024_0_0))⟩] : S512x6144.Idx → EReal) (ix2 p q) = R m c (ix2 (row t p) q) := by
  have at_ : ∀ (o : ℕ) (h : o + 1024 ≤ 6144) (v : S512x1024.Idx → EReal),
      (∀ (a : Fin 512) (b : Fin 1024), v (ix2 a b) = R m c (ix2 (row t a) (col o h b))) →
      ∀ x : S512x1024.Idx, (∀ k, (ix2 p q k).val = ![0, o] k + (x k).val) → v x = R m c (ix2 (row t p) q) := by
    intro o h v hv x hx
    obtain ⟨a, b, rfl⟩ : ∃ (a : Fin 512) (b : Fin 1024), x = ix2 a b := ⟨x 0, x 1, eq_ix2 x⟩
    have h0 : p = a := Fin.ext ((hx 0).trans (Nat.zero_add _))
    have h1 : q = col o h b := Fin.ext (hx 1)
    subst h0 h1
    exact hv p b
  refine View.canon_eq_of_allAt _ _ _ (View.cover_of_tiled_head _ _ _ rfl _)
    (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_cons_unit _ _ _ _ _ ?_ (View.allAt_nil _ _)))))))
  · exact at_ 5120 (by omega) _ fun a b => slab_apply m c t 5120 (by omega) _ a b
  · exact at_ 4096 (by omega) _ fun a b => slab_apply m c t 4096 (by omega) _ a b
  · exact at_ 3072 (by omega) _ fun a b => slab_apply m c t 3072 (by omega) _ a b
  · exact at_ 2048 (by omega) _ fun a b => slab_apply m c t 2048 (by omega) _ a b
  · exact at_ 1024 (by omega) _ fun a b => slab_apply m c t 1024 (by omega) _ a b
  · exact at_ 0 (by omega) _ fun a b => slab_apply m c t 0 (by omega) _ a b

theorem final2 (c : Dev nD) : (dats m 0 c).arrAt 2 cfg0.N = R m c := by
  refine (dats m 0 c).arrAt_eq_of_covers 2 _ (by decide +kernel) fun t hf y => ?_
  obtain ⟨p, q, rfl⟩ : ∃ (p : Fin 512) (q : Fin 6144), y = ix2 p q := ⟨y 0, y 1, eq_ix2 y⟩
  have e : ((View.whole main_v0).slice (win0_2.rect t)).emb (ix2 p q) = ix2 (row t p) q := by
    funext a
    apply Fin.ext
    match a with
    | ⟨0, _⟩ => show win0_2.index t 0 * 512 + 1 * p.val = t.val * 512 + p.val; rw [idx2]; simp
    | ⟨1, _⟩ => show win0_2.index t 1 * 6144 + 1 * q.val = q.val; rw [idx2]; simp
  blk_simp
  rw [after0_2]
  frame_out
  exact (store2 m c t p q).trans (congrArg (R m c) e).symm

end Cert.ProjKernelIdeal.Hand

namespace Cert.Proof.Proj

theorem algebraic : Cert.algebraic_ProjKernelIdeal_ProjReferenceIdeal := by
  intro m ρ m' ρ' _ hagree
  refine ⟨fun c => Cert.ProjKernelIdeal.Hand.R m c,
    (θ_run Cert.ProjKernelIdeal.defs _ _).mono (fun _ h c => ⟨(h c).1.trans (Cert.ProjKernelIdeal.Hand.final2 m c), (h c).2⟩)
      (Cert.ProjKernelIdeal.Value.run_blocks (F := Ideal) m ρ), ?_⟩
  refine (θ_run Cert.ProjReferenceIdeal.defs _ _).mono (fun _ h c => ⟨(h c).1.trans ?_, (h c).2⟩) (Cert.ProjReferenceIdeal.Value.run (F := Ideal) m' ρ')
  rw [(hagree c).1, (hagree c).2]
  funext i
  unfold Cert.ProjKernelIdeal.Hand.R Cert.ProjKernelIdeal.Hand.W
  pointwise

end Cert.Proof.Proj
end
-- ==== Proof.OutVal.lean ====
/-
  The block's output: the two branches' projections, the gated sum, the output projection and the second norm.
  The kernel call and the reference compute the same.
-/
module

public import proofs.«01_k».proof.Defs
public import proofs.«01_k».proof.Proof.Norm
public import proofs.«01_k».proof.Proof.Gen.OutKernelIdeal.Value
public import proofs.«01_k».proof.Proof.Gen.OutReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.OutKernelIdeal.Hand

open Cert.OutKernelIdeal Cert.OutKernelIdeal.Gen

/-! ## What the stores hold, at an index -/

theorem pay4_apply (x : Vec Ideal S512x1024 .bf16) (w : Vec Ideal S1024x1024 .bf16) (p : Fin 512) (q : Fin 1024) :
    k0_pay4 x w (ix2 p q) = ∑ k : Fin 1024, x (ix2 p k) * w (ix2 k q) := by
  unfold_payloads
  pointwise

theorem pay5_apply (x : Vec Ideal S512x1024 .bf16) (w : Vec Ideal S1024x1024 .bf16) (p : Fin 512) (q : Fin 1024) :
    k0_pay5 x w (ix2 p q) = ∑ k : Fin 1024, x (ix2 p k) * w (ix2 k q) := by
  unfold_payloads
  pointwise

section
variable (a : Vec Ideal S512x1024 .bf16) (wa : Vec Ideal S1024x1024 .bf16) (b : Vec Ideal S512x1024 .bf16) (wb : Vec Ideal S1024x1024 .bf16)
  (ga gb : Vec Ideal S512x1024 .bf16) (x : Vec Ideal S512x1024 .f32) (wo : Vec Ideal S1024x1024 .bf16)

theorem pay6_apply (p : Fin 512) (q : Fin 1024) :
    k0_pay6 a wa b wb ga gb (ix2 p q) = ga (ix2 p q) * (∑ k : Fin 1024, a (ix2 p k) * wa (ix2 k q))
      + gb (ix2 p q) * (∑ k : Fin 1024, b (ix2 p k) * wb (ix2 k q)) := by
  unfold_payloads
  pointwise

theorem pay7_apply (p : Fin 512) (q : Fin 1024) :
    k0_pay7 a wa b wb ga gb x wo (ix2 p q) = x (ix2 p q) + ∑ k : Fin 1024, k0_pay6 a wa b wb ga gb (ix2 p k) * wo (ix2 k q) := by
  unfold k0_pay7
  pointwise

/-- The sum of a row's squares, as a column. -/
theorem pay8_apply (p : Fin 512) (r : Fin 1) :
    k0_pay8 a wa b wb ga gb x wo (ix2 p r) = ∑ k : Fin 1024, k0_pay7 a wa b wb ga gb x wo (ix2 p k) * k0_pay7 a wa b wb ga gb x wo (ix2 p k) := by
  unfold k0_pay8
  pointwise

end

theorem pay1_apply (y : FVec Ideal S512x1024 .f32) (s : FVec Ideal S512x1 .f32) (g : Vec Ideal S1x1024 .f32) (p : Fin 512) (q : Fin 1024)
    (hs : s (ix2 p 0) = ∑ k : Fin 1024, y (ix2 p k) * y (ix2 p k)) :
    k0_pay1 y s g (ix2 p q) = y (ix2 p q) * Ideal.rsqrt (Cert.Proof.ms fun k => y (ix2 p k)) * g (ix2 0 q) := by
  unfold Cert.Proof.ms
  rw [← hs]
  unfold k0_pay1
  pointwise

/-! ## The results, as functions of whole arrays -/

/-- The left and the right half of the gates' columns. -/
def lo (q : Fin 1024) : Fin 2048 := ⟨q.val, by have := q.isLt; omega⟩
def hi (q : Fin 1024) : Fin 2048 := ⟨1024 + q.val, by have := q.isLt; omega⟩

/-- A branch's projection. -/
def P (y : S4096x1024.Idx → EReal) (w : S1024x1024.Idx → EReal) : S4096x1024.Idx → EReal := fun i =>
  ∑ k : Fin 1024, y (ix2 (i 0) k) * w (ix2 k (i 1))

/-- The gated sum of the two branches. -/
def Mg (ya yc : S4096x1024.Idx → EReal) (g : S4096x2048.Idx → EReal) : S4096x1024.Idx → EReal := fun i =>
  g (ix2 (i 0) (lo (i 1))) * ya (ix2 (i 0) (i 1)) + g (ix2 (i 0) (hi (i 1))) * yc (ix2 (i 0) (i 1))

/-- The residual after the output projection. -/
def X (x mg : S4096x1024.Idx → EReal) (w : S1024x1024.Idx → EReal) : S4096x1024.Idx → EReal := fun i =>
  x (ix2 (i 0) (i 1)) + P mg w i

/-- The norm of the residual. -/
def H (x : S4096x1024.Idx → EReal) (g : Fin 1024 → EReal) : S4096x1024.Idx → EReal := fun i =>
  x (ix2 (i 0) (i 1)) * Ideal.rsqrt (Cert.Proof.ms fun k => x (ix2 (i 0) k)) * g (i 1)

/-! ## The staged blocks -/

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 512) (q : Fin 1024) :
    iblk m c 1 t (ix2 p q) = m ((c : Thread nD τ).loc main_arg1) (ix2 (row t p) q) := by
  unfold iblk
  rw [View.read_apply]
  show V m c main_arg1 _ = _
  rw [V_main_arg1]
  congr 1
  funext a
  apply Fin.ext
  match a with
  | ⟨0, _⟩ => show win0_1.index t 0 * 512 + 1 * p.val = t.val * 512 + p.val; rw [idx1]; simp
  | ⟨1, _⟩ => show win0_1.index t 1 * 1024 + 1 * q.val = q.val; rw [idx1]; simp

theorem blk2 (c : Dev nD) (t : Fin cfg0.N) (p : Fin 512) (q : Fin 2048) :
    iblk m c 2 t (ix2 p q) = m ((c : Thread nD τ).loc main_arg2) (ix2 (row t p) q) := by
  unfold iblk
  rw [View.read_apply]
  show V m c main_arg2 _ = _
  rw [V_main_arg2]
  congr 1
  funext a
  apply Fin.ext
  match a with
  | ⟨0, _⟩ => show win0_2.index t 0 * 512 + 1 * p.val = t.val * 512 + p.val; rw [idx2]; simp
  | ⟨1, _⟩ => show win0_2.index t 1 * 2048 + 1 * q.val = q.val; rw [idx2]; simp

theorem blk3 (c : Dev nD) (t : Fin cfg0.N) (p : Fin 512) (q : Fin 1024) :
    iblk m c 3 t (ix2 p q) = m ((c : Thread nD τ).loc main_arg3) (ix2 (row t p) q) := by
  unfold iblk
  rw [View.read_apply]
  show V m c main_arg3 _ = _
  rw [V_main_arg3]
  congr 1
  funext a
  apply Fin.ext
  match a with
  | ⟨0, _⟩ => show win0_3.index t 0 * 512 + 1 * p.val = t.val * 512 + p.val; rw [idx3]; simp
  | ⟨1, _⟩ => show win0_3.index t 1 * 1024 + 1 * q.val = q.val; rw [idx3]; simp

theorem blk4 (c : Dev nD) (t : Fin cfg0.N) (p : Fin 1024) (q : Fin 1024) :
    iblk m c 4 t (ix2 p q) = m ((c : Thread nD τ).loc main_arg4) (ix2 p q) := by
  unfold iblk
  rw [View.read_apply]
  show V m c main_arg4 _ = _
  rw [V_main_arg4]
  congr 1
  funext a
  apply Fin.ext
  match a with
  | ⟨0, _⟩ => show win0_4.index t 0 * 1024 + 1 * p.val = p.val; rw [idx4]; simp
  | ⟨1, _⟩ => show win0_4.index t 1 * 1024 + 1 * q.val = q.val; rw [idx4]; simp

theorem blk5 (c : Dev nD) (t : Fin cfg0.N) (p : Fin 1024) (q : Fin 1024) :
    iblk m c 5 t (ix2 p q) = m ((c : Thread nD τ).loc main_arg5) (ix2 p q) := by
  unfold iblk
  rw [View.read_apply]
  show V m c main_arg5 _ = _
  rw [V_main_arg5]
  congr 1
  funext a
  apply Fin.ext
  match a with
  | ⟨0, _⟩ => show win0_5.index t 0 * 1024 + 1 * p.val = p.val; rw [idx5]; simp
  | ⟨1, _⟩ => show win0_5.index t 1 * 1024 + 1 * q.val = q.val; rw [idx5]; simp

theorem blk6 (c : Dev nD) (t : Fin cfg0.N) (p : Fin 1024) (q : Fin 1024) :
    iblk m c 6 t (ix2 p q) = m ((c : Thread nD τ).loc main_arg6) (ix2 p q) := by
  unfold iblk
  rw [View.read_apply]
  show V m c main_arg6 _ = _
  rw [V_main_arg6]
  congr 1
  funext a
  apply Fin.ext
  match a with
  | ⟨0, _⟩ => show win0_6.index t 0 * 1024 + 1 * p.val = p.val; rw [idx6]; simp
  | ⟨1, _⟩ => show win0_6.index t 1 * 1024 + 1 * q.val = q.val; rw [idx6]; simp

theorem blk7 (c : Dev nD) (t : Fin cfg0.N) (p : Fin 1) (q : Fin 1024) :
    iblk m c 7 t (ix2 p q) = V m c main_v0 (ix2 p q) := by
  unfold iblk
  rw [View.read_apply]
  show V m c main_v0 _ = _
  congr 1
  funext a
  apply Fin.ext
  match a with
  | ⟨0, _⟩ => show win0_7.index t 0 * 1 + 1 * p.val = p.val; rw [idx7]; simp
  | ⟨1, _⟩ => show win0_7.index t 1 * 1024 + 1 * q.val = q.val; rw [idx7]; simp

theorem V0 (c : Dev nD) (q : Fin 1024) : V m c main_v0 (ix2 0 q) = m ((c : Thread nD τ).loc main_arg7) (ix1 q) := by
  have e : V m c main_v0 = shapeCast S1x1024 (m ((c : Thread nD τ).loc main_arg7)) shapeCasts_S1024_S1x1024 := by
    show StableHlo.after (hostOps0 (F := Ideal)) (fun b => m (c, b)) main_v0 = _
    simp only [hostOps0, StableHlo.TRef.binary, StableHlo.TRef.nullary, StableHlo.TRef.reshape, StableHlo.TRef.unary, StableHlo.TRef.toBuf, StableHlo.TRef.ofBuf, cast_eq]
    after_results
    rfl
  rw [e]
  pointwise

theorem ld_lo (Y : Vec Ideal S512x2048 .bf16) (p : Fin 512) (q : Fin 1024) : View.ld Y r0_2 (ix2 p q) = Y (ix2 p (lo q)) := by
  refine congrArg Y (funext fun a => Fin.ext ?_)
  match a with
  | ⟨0, _⟩ => show 0 + 1 * p.val = p.val; omega
  | ⟨1, _⟩ => show 0 + 1 * q.val = q.val; omega

theorem ld_hi (Y : Vec Ideal S512x2048 .bf16) (p : Fin 512) (q : Fin 1024) : View.ld Y r0_3 (ix2 p q) = Y (ix2 p (hi q)) := by
  refine congrArg Y (funext fun a => Fin.ext ?_)
  match a with
  | ⟨0, _⟩ => show 0 + 1 * p.val = p.val; omega
  | ⟨1, _⟩ => show 1024 + 1 * q.val = 1024 + q.val; omega

/-! ## What a point's stores hold -/

abbrev ain (c : Dev nD) (t : Fin cfg0.N) : Vec Ideal S512x1024 .bf16 := iblk m c 0 t
abbrev cin (c : Dev nD) (t : Fin cfg0.N) : Vec Ideal S512x1024 .bf16 := iblk m c 1 t
abbrev gat (c : Dev nD) (t : Fin cfg0.N) : Vec Ideal S512x2048 .bf16 := iblk m c 2 t
abbrev wa (c : Dev nD) (t : Fin cfg0.N) : Vec Ideal S1024x1024 .bf16 := iblk m c 4 t
abbrev wc (c : Dev nD) (t : Fin cfg0.N) : Vec Ideal S1024x1024 .bf16 := iblk m c 5 t
abbrev wo (c : Dev nD) (t : Fin cfg0.N) : Vec Ideal S1024x1024 .bf16 := iblk m c 6 t
abbrev res (c : Dev nD) (t : Fin cfg0.N) : Vec Ideal S512x1024 .f32 := iblk m c 3 t

/-- The results of the arrays on a device. -/
abbrev R8 (c : Dev nD) : S4096x1024.Idx → EReal := P (m ((c : Thread nD τ).loc main_arg0)) (m ((c : Thread nD τ).loc main_arg4))
abbrev R9 (c : Dev nD) : S4096x1024.Idx → EReal := P (m ((c : Thread nD τ).loc main_arg1)) (m ((c : Thread nD τ).loc main_arg5))
abbrev R10 (c : Dev nD) : S4096x1024.Idx → EReal := Mg (R8 m c) (R9 m c) (m ((c : Thread nD τ).loc main_arg2))
abbrev R11 (c : Dev nD) : S4096x1024.Idx → EReal := X (m ((c : Thread nD τ).loc main_arg3)) (R10 m c) (m ((c : Thread nD τ).loc main_arg6))
abbrev R12 (c : Dev nD) : S4096x1024.Idx → EReal := H (R11 m c) (fun k => m ((c : Thread nD τ).loc main_arg7) (ix1 k))

theorem sum8 (c : Dev nD) (t : Fin cfg0.N) (p : Fin 512) (q : Fin 1024) :
    ∑ k : Fin 1024, ain m c t (ix2 p k) * (wa m c t (ix2 k q) : EReal) = R8 m c (ix2 (row t p) q) :=
  Finset.sum_congr rfl fun k _ => congrArg₂ (· * ·) (blk0 m c t p k) (blk4 m c t k q)

theorem sum9 (c : Dev nD) (t : Fin cfg0.N) (p : Fin 512) (q : Fin 1024) :
    ∑ k : Fin 1024, cin m c t (ix2 p k) * (wc m c t (ix2 k q) : EReal) = R9 m c (ix2 (row t p) q) :=
  Finset.sum_congr rfl fun k _ => congrArg₂ (· * ·) (blk1 m c t p k) (blk5 m c t k q)

theorem store8 (c : Dev nD) (t : Fin cfg0.N) (p : Fin 512) (q : Fin 1024) :
    k0_pay4 (ain m c t) (wa m c t) (ix2 p q) = R8 m c (ix2 (row t p) q) := (pay4_apply _ _ p q).trans (sum8 m c t p q)

theorem store9 (c : Dev nD) (t : Fin cfg0.N) (p : Fin 512) (q : Fin 1024) :
    k0_pay5 (cin m c t) (wc m c t) (ix2 p q) = R9 m c (ix2 (row t p) q) := (pay5_apply _ _ p q).trans (sum9 m c t p q)

theorem store10 (c : Dev nD) (t : Fin cfg0.N) (p : Fin 512) (q : Fin 1024) :
    k0_pay6 (ain m c t) (wa m c t) (cin m c t) (wc m c t) (View.ld (gat m c t) r0_2) (View.ld (gat m c t) r0_3) (ix2 p q) = R10 m c (ix2 (row t p) q) :=
  (pay6_apply _ _ _ _ _ _ p q).trans (congrArg₂ (· + ·)
    (congrArg₂ (· * ·) ((ld_lo (gat m c t) p q).trans (blk2 m c t p _)) (sum8 m c t p q))
    (congrArg₂ (· * ·) ((ld_hi (gat m c t) p q).trans (blk2 m c t p _)) (sum9 m c t p q)))

theorem store11 (c : Dev nD) (t : Fin cfg0.N) (p : Fin 512) (q : Fin 1024) :
    k0_pay7 (ain m c t) (wa m c t) (cin m c t) (wc m c t) (View.ld (gat m c t) r0_2) (View.ld (gat m c t) r0_3) (res m c t) (wo m c t) (ix2 p q)
      = R11 m c (ix2 (row t p) q) :=
  (pay7_apply _ _ _ _ _ _ _ _ p q).trans (congrArg₂ (· + ·) (blk3 m c t p q)
    (Finset.sum_congr rfl fun k _ => congrArg₂ (· * ·) (store10 m c t p k) (blk6 m c t k q)))

theorem store12 (c : Dev nD) (t : Fin cfg0.N) (p : Fin 512) (q : Fin 1024) :
    k0_pay1 (k0_pay7 (ain m c t) (wa m c t) (cin m c t) (wc m c t) (View.ld (gat m c t) r0_2) (View.ld (gat m c t) r0_3) (res m c t) (wo m c t))
        (k0_pay8 (ain m c t) (wa m c t) (cin m c t) (wc m c t) (View.ld (gat m c t) r0_2) (View.ld (gat m c t) r0_3) (res m c t) (wo m c t))
        (iblk m c 7 t) (ix2 p q) = R12 m c (ix2 (row t p) q) :=
  (pay1_apply _ _ _ p q (pay8_apply _ _ _ _ _ _ _ _ p 0)).trans (congrArg₂ (· * ·)
    (congrArg₂ (· * ·) (store11 m c t p q) (congrArg (fun f => Ideal.rsqrt (Cert.Proof.ms f)) (funext fun k => store11 m c t p k)))
    ((blk7 m c t 0 q).trans (V0 m c q)))

/-! ## The result arrays -/

theorem final8 (c : Dev nD) : (dats m 0 c).arrAt 8 cfg0.N = R8 m c := by
  refine (dats m 0 c).arrAt_eq_of_covers 8 _ (by decide +kernel) fun t hf y => ?_
  obtain ⟨p, q, rfl⟩ : ∃ (p : Fin 512) (q : Fin 1024), y = ix2 p q := ⟨y 0, y 1, eq_ix2 y⟩
  have e : ((View.whole main_v1_0).slice (win0_8.rect t)).emb (ix2 p q) = ix2 (row t p) q := by
    funext a
    apply Fin.ext
    match a with
    | ⟨0, _⟩ => show win0_8.index t 0 * 512 + 1 * p.val = t.val * 512 + p.val; rw [idx8]; simp
    | ⟨1, _⟩ => show win0_8.index t 1 * 1024 + 1 * q.val = q.val; rw [idx8]; simp
  blk_simp
  rw [after0_8]
  frame_out
  exact (store8 m c t p q).trans (congrArg (R8 m c) e).symm

theorem final9 (c : Dev nD) : (dats m 0 c).arrAt 9 cfg0.N = R9 m c := by
  refine (dats m 0 c).arrAt_eq_of_covers 9 _ (by decide +kernel) fun t hf y => ?_
  obtain ⟨p, q, rfl⟩ : ∃ (p : Fin 512) (q : Fin 1024), y = ix2 p q := ⟨y 0, y 1, eq_ix2 y⟩
  have e : ((View.whole main_v1_1).slice (win0_9.rect t)).emb (ix2 p q) = ix2 (row t p) q := by
    funext a
    apply Fin.ext
    match a with
    | ⟨0, _⟩ => show win0_9.index t 0 * 512 + 1 * p.val = t.val * 512 + p.val; rw [idx9]; simp
    | ⟨1, _⟩ => show win0_9.index t 1 * 1024 + 1 * q.val = q.val; rw [idx9]; simp
  blk_simp
  rw [after0_9]
  frame_out
  exact (store9 m c t p q).trans (congrArg (R9 m c) e).symm

theorem final10 (c : Dev nD) : (dats m 0 c).arrAt 10 cfg0.N = R10 m c := by
  refine (dats m 0 c).arrAt_eq_of_covers 10 _ (by decide +kernel) fun t hf y => ?_
  obtain ⟨p, q, rfl⟩ : ∃ (p : Fin 512) (q : Fin 1024), y = ix2 p q := ⟨y 0, y 1, eq_ix2 y⟩
  have e : ((View.whole main_v1_2).slice (win0_10.rect t)).emb (ix2 p q) = ix2 (row t p) q := by
    funext a
    apply Fin.ext
    match a with
    | ⟨0, _⟩ => show win0_10.index t 0 * 512 + 1 * p.val = t.val * 512 + p.val; rw [idx10]; simp
    | ⟨1, _⟩ => show win0_10.index t 1 * 1024 + 1 * q.val = q.val; rw [idx10]; simp
  blk_simp
  rw [after0_10]
  frame_out
  exact (store10 m c t p q).trans (congrArg (R10 m c) e).symm

theorem final11 (c : Dev nD) : (dats m 0 c).arrAt 11 cfg0.N = R11 m c := by
  refine (dats m 0 c).arrAt_eq_of_covers 11 _ (by decide +kernel) fun t hf y => ?_
  obtain ⟨p, q, rfl⟩ : ∃ (p : Fin 512) (q : Fin 1024), y = ix2 p q := ⟨y 0, y 1, eq_ix2 y⟩
  have e : ((View.whole main_v1_3).slice (win0_11.rect t)).emb (ix2 p q) = ix2 (row t p) q := by
    funext a
    apply Fin.ext
    match a with
    | ⟨0, _⟩ => show win0_11.index t 0 * 512 + 1 * p.val = t.val * 512 + p.val; rw [idx11]; simp
    | ⟨1, _⟩ => show win0_11.index t 1 * 1024 + 1 * q.val = q.val; rw [idx11]; simp
  blk_simp
  rw [after0_11]
  frame_out
  exact (store11 m c t p q).trans (congrArg (R11 m c) e).symm

theorem final12 (c : Dev nD) : (dats m 0 c).arrAt 12 cfg0.N = R12 m c := by
  refine (dats m 0 c).arrAt_eq_of_covers 12 _ (by decide +kernel) fun t hf y => ?_
  obtain ⟨p, q, rfl⟩ : ∃ (p : Fin 512) (q : Fin 1024), y = ix2 p q := ⟨y 0, y 1, eq_ix2 y⟩
  have e : ((View.whole main_v1_4).slice (win0_12.rect t)).emb (ix2 p q) = ix2 (row t p) q := by
    funext a
    apply Fin.ext
    match a with
    | ⟨0, _⟩ => show win0_12.index t 0 * 512 + 1 * p.val = t.val * 512 + p.val; rw [idx12]; simp
    | ⟨1, _⟩ => show win0_12.index t 1 * 1024 + 1 * q.val = q.val; rw [idx12]; simp
  blk_simp
  rw [after0_12]
  frame_out
  exact (store12 m c t p q).trans (congrArg (R12 m c) e).symm

end Cert.OutKernelIdeal.Hand

namespace Cert.OutReferenceIdeal.Hand

open Cert.OutReferenceIdeal Cert.OutReferenceIdeal.Gen
open Cert.OutKernelIdeal.Hand (P Mg X H lo hi)

/-! ## The reference's results -/

variable (y z : FVec Ideal S4096x1024 .bf16) (gt : FVec Ideal S4096x2048 .bf16) (x : FVec Ideal S4096x1024 .f32) (wa wc wo : FVec Ideal S1024x1024 .bf16)
  (g : FVec Ideal S1024 .f32)

abbrev dot (y : FVec Ideal S4096x1024 .f32) (w : FVec Ideal S1024x1024 .bf16) : FVec Ideal S4096x1024 .f32 :=
  Host.dotGeneral dot_S4096x1024_S1024x1024_S4096x1024_1_0_0_1_n_n none y (extf .f32 w bitsLt_bf16_f32)
abbrev merged (ya yc : FVec Ideal S4096x1024 .f32) : FVec Ideal S4096x1024 .f32 :=
  addf (mulf (extractStridedSlice S4096x1024 ![0, 0] (extf .f32 gt bitsLt_bf16_f32) slices_S4096x2048_S4096x1024_0_0) ya)
    (mulf (extractStridedSlice S4096x1024 ![0, 1024] (extf .f32 gt bitsLt_bf16_f32) slices_S4096x2048_S4096x1024_0_1024) yc)
abbrev norm : FVec Ideal S4096x1024 .f32 := mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 g))

theorem dot_eq (y : FVec Ideal S4096x1024 .f32) (w : FVec Ideal S1024x1024 .bf16) : dot y w = P y w := by
  funext i
  unfold P
  pointwise

theorem merged_eq (ya yc : FVec Ideal S4096x1024 .f32) : merged gt ya yc = Mg ya yc gt := by
  funext i
  obtain ⟨p, q, rfl⟩ : ∃ (p : Fin 4096) (q : Fin 1024), i = ix2 p q := ⟨i 0, i 1, eq_ix2 i⟩
  unfold Mg
  pointwise
  rfl

theorem norm_eq : norm x g = H x (fun k => g (ix1 k)) := by
  funext i
  obtain ⟨p, q, rfl⟩ : ∃ (p : Fin 4096) (q : Fin 1024), i = ix2 p q := ⟨i 0, i 1, eq_ix2 i⟩
  unfold H Cert.Proof.ms
  pointwise

theorem res30 : merged gt (dot y wa) (dot z wc) = Mg (P y wa) (P z wc) gt := by
  rw [merged_eq, dot_eq, dot_eq]

theorem res14 : addf x (dot (merged gt (dot y wa) (dot z wc)) wo) = X x (Mg (P y wa) (P z wc) gt) wo := by
  rw [res30, dot_eq]
  funext i
  obtain ⟨p, q, rfl⟩ : ∃ (p : Fin 4096) (q : Fin 1024), i = ix2 p q := ⟨i 0, i 1, eq_ix2 i⟩
  rfl

theorem res31 : norm (addf x (dot (merged gt (dot y wa) (dot z wc)) wo)) g = H (X x (Mg (P y wa) (P z wc) gt) wo) (fun k => g (ix1 k)) := by
  rw [res14, norm_eq]

end Cert.OutReferenceIdeal.Hand

namespace Cert.Proof.Out

open Cert.OutKernelIdeal.Hand Cert.OutReferenceIdeal.Hand

theorem algebraic : Cert.algebraic_OutKernelIdeal_OutReferenceIdeal := by
  intro m ρ m' ρ' _ hagree
  refine ⟨_, _, _, _, _, (θ_run Cert.OutKernelIdeal.defs _ _).mono
    (fun _ h c => ⟨(h c).1.trans (final8 m c), (h c).2.1.trans (final9 m c), (h c).2.2.1.trans (final10 m c), (h c).2.2.2.1.trans (final11 m c),
      (h c).2.2.2.2.1.trans (final12 m c), (h c).2.2.2.2.2⟩)
    (Cert.OutKernelIdeal.Value.run_blocks (F := Ideal) m ρ), ?_⟩
  refine (θ_run Cert.OutReferenceIdeal.defs _ _).mono (fun _ h c => ?_) (Cert.OutReferenceIdeal.Value.run (F := Ideal) m' ρ')
  obtain ⟨a0, a1, a2, a3, a4, a5, a6, a7⟩ := hagree c
  refine ⟨(h c).1.trans ?_, (h c).2.1.trans ?_, (h c).2.2.1.trans ?_, (h c).2.2.2.1.trans ?_, (h c).2.2.2.2.1.trans ?_, (h c).2.2.2.2.2⟩
  · rw [a0, a4]
    exact dot_eq _ _
  · rw [a1, a5]
    exact dot_eq _ _
  · rw [a0, a1, a2, a4, a5]
    exact res30 _ _ _ _ _
  · rw [a0, a1, a2, a3, a4, a5, a6]
    exact res14 _ _ _ _ _ _ _
  · rw [a0, a1, a2, a3, a4, a5, a6, a7]
    exact res31 _ _ _ _ _ _ _ _

end Cert.Proof.Out
end
-- ==== Proof.FeedVal.lean ====
/-
  The feed-forward layer and the loss: the kernel call and the reference compute the same pre-activations and the same
  gradient of the loss with respect to the layer's output.
-/
module

public import proofs.«01_k».proof.Defs
public import proofs.«01_k».proof.Proof.Norm
public import proofs.«01_k».proof.Proof.Gen.FeedKernelIdeal.Value
public import proofs.«01_k».proof.Proof.Gen.FeedReferenceIdeal.Run
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.FeedKernelIdeal.Hand

open Cert.FeedKernelIdeal Cert.FeedKernelIdeal.Gen

/-! ## What the stores hold, at an index -/

section
variable (x : Vec Ideal S512x1024 .bf16) (w : Vec Ideal S1024x1024 .bf16)

/-- A block's rows times a slab of a weight's columns. The stores and the products that follow differ in the slab only. -/
theorem pay2_apply (p : Fin 512) (q : Fin 1024) : k0_pay2 x w (ix2 p q) = ∑ k : Fin 1024, x (ix2 p k) * w (ix2 k q) := by
  unfold_payloads
  pointwise

end

/-- The squared rectifier. -/
abbrev sqr (a : EReal) : EReal := max a 0 * max a 0

/-- A slab of squared, clipped pre-activations times the same slab of the second weight. -/
abbrev part (d : S512x1024.Idx → EReal) (u : S1024x1024.Idx → EReal) (p : Fin 512) (q : Fin 1024) : EReal :=
  ∑ k : Fin 1024, sqr (d (ix2 p k)) * u (ix2 k q)

theorem pay7_apply (x : Vec Ideal S512x1024 .bf16) (w0 w1 u0 u1 : Vec Ideal S1024x1024 .bf16) (p : Fin 512) (q : Fin 1024) :
    k0_pay7 x w0 w1 u0 u1 (ix2 p q) = part (k0_pay2 x w0) u0 p q + part (k0_pay2 x w1) u1 p q := by
  show k0_pay7 x w0 w1 u0 u1 (ix2 p q) = part (k0_pay2 x w0) u0 p q + part (k0_pay3 x w1) u1 p q
  unfold k0_pay7
  pointwise

theorem pay14_apply (d2 s d3 : FVec Ideal S512x1024 .f32) (u2 u3 : Vec Ideal S1024x1024 .bf16) (x tg : Vec Ideal S512x1024 .f32) (p : Fin 512) (q : Fin 1024) :
    k0_pay14 d2 s d3 u2 u3 x tg (ix2 p q)
      = (x (ix2 p q) + (s (ix2 p q) + part d2 u2 p q + part d3 u3 p q) - tg (ix2 p q)) * Ideal.ofBits .f32 0x3A800000#32 := by
  unfold_payloads
  pointwise

/-! ## The results, as functions of whole arrays -/

/-- Place `k` of the slab of 1024 that begins at `o`. -/
def col (o : ℕ) (h : o + 1024 ≤ 4096) (k : Fin 1024) : Fin 4096 := ⟨o + k.val, by have := k.isLt; omega⟩

/-- The pre-activations. -/
def A (h : S4096x1024.Idx → EReal) (wu : S1024x4096.Idx → EReal) : S4096x4096.Idx → EReal := fun i =>
  ∑ k : Fin 1024, h (ix2 (i 0) k) * wu (ix2 k (i 1))

/-- A slab's share of the layer's output. -/
def slab (a : S4096x4096.Idx → EReal) (wd : S4096x1024.Idx → EReal) (o : ℕ) (h : o + 1024 ≤ 4096) (i : Fin 4096) (j : Fin 1024) : EReal :=
  ∑ k : Fin 1024, sqr (a (ix2 i (col o h k))) * wd (ix2 (col o h k) j)

/-- The layer's output without the residual. -/
def Y (a : S4096x4096.Idx → EReal) (wd : S4096x1024.Idx → EReal) (i : Fin 4096) (j : Fin 1024) : EReal :=
  slab a wd 0 (by omega) i j + slab a wd 1024 (by omega) i j + slab a wd 2048 (by omega) i j + slab a wd 3072 (by omega) i j

/-- The gradient of the loss: the difference from the target, over the number of columns. -/
def D (x : S4096x1024.Idx → EReal) (y : Fin 4096 → Fin 1024 → EReal) (tg : S4096x1024.Idx → EReal) : S4096x1024.Idx → EReal := fun i =>
  (x (ix2 (i 0) (i 1)) + y (i 0) (i 1) - tg (ix2 (i 0) (i 1))) * Ideal.ofBits .f32 0x3A800000#32

/-! ## The staged blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The array's row of a row of point `t`'s block. -/
def row (t : Fin cfg0.N) (p : Fin 512) : Fin 4096 := ⟨t.val * 512 + p.val, by have := lt_of_lt_of_eq t.isLt N_0; have := p.isLt; omega⟩

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 1024) (q : Fin 4096) :
    iblk m c 1 t (ix2 p q) = m ((c : Thread nD τ).loc main_arg1) (ix2 p q) := by
  unfold iblk
  rw [View.read_apply]
  show V m c main_arg1 _ = _
  rw [V_main_arg1]
  congr 1
  funext a
  apply Fin.ext
  match a with
  | ⟨0, _⟩ => show win0_1.index t 0 * 1024 + 1 * p.val = p.val; rw [idx1]; simp
  | ⟨1, _⟩ => show win0_1.index t 1 * 4096 + 1 * q.val = q.val; rw [idx1]; simp

theorem blk2 (c : Dev nD) (t : Fin cfg0.N) (p : Fin 4096) (q : Fin 1024) :
    iblk m c 2 t (ix2 p q) = m ((c : Thread nD τ).loc main_arg2) (ix2 p q) := by
  unfold iblk
  rw [View.read_apply]
  show V m c main_arg2 _ = _
  rw [V_main_arg2]
  congr 1
  funext a
  apply Fin.ext
  match a with
  | ⟨0, _⟩ => show win0_2.index t 0 * 4096 + 1 * p.val = p.val; rw [idx2]; simp
  | ⟨1, _⟩ => show win0_2.index t 1 * 1024 + 1 * q.val = q.val; rw [idx2]; simp

theorem blk3 (c : Dev nD) (t : Fin cfg0.N) (p : Fin 512) (q : Fin 1024) :
    iblk m c 3 t (ix2 p q) = m ((c : Thread nD τ).loc main_arg3) (ix2 (row t p) q) := by
  unfold iblk
  rw [View.read_apply]
  show V m c main_arg3 _ = _
  rw [V_main_arg3]
  congr 1
  funext a
  apply Fin.ext
  match a with
  | ⟨0, _⟩ => show win0_3.index t 0 * 512 + 1 * p.val = t.val * 512 + p.val; rw [idx3]; simp
  | ⟨1, _⟩ => show win0_3.index t 1 * 1024 + 1 * q.val = q.val; rw [idx3]; simp

theorem blk4 (c : Dev nD) (t : Fin cfg0.N) (p : Fin 512) (q : Fin 1024) :
    iblk m c 4 t (ix2 p q) = m ((c : Thread nD τ).loc main_arg4) (ix2 (row t p) q) := by
  unfold iblk
  rw [View.read_apply]
  show V m c main_arg4 _ = _
  rw [V_main_arg4]
  congr 1
  funext a
  apply Fin.ext
  match a with
  | ⟨0, _⟩ => show win0_4.index t 0 * 512 + 1 * p.val = t.val * 512 + p.val; rw [idx4]; simp
  | ⟨1, _⟩ => show win0_4.index t 1 * 1024 + 1 * q.val = q.val; rw [idx4]; simp

/-- A slab of the first weight's columns. -/
theorem ld_col (Z : Vec Ideal S1024x4096 .bf16) (o : ℕ) (h : o + 1024 ≤ 4096) (inb : _) (p q : Fin 1024) :
    View.ld Z (Rect.unit ![0, o] ![1024, 1024] inb) (ix2 p q) = Z (ix2 p (col o h q)) := by
  refine congrArg Z (funext fun a => Fin.ext ?_)
  match a with
  | ⟨0, _⟩ => show 0 + 1 * p.val = p.val; omega
  | ⟨1, _⟩ => show o + 1 * q.val = o + q.val; omega

/-- A slab of the second weight's rows. -/
theorem ld_row (Z : Vec Ideal S4096x1024 .bf16) (o : ℕ) (h : o + 1024 ≤ 4096) (inb : _) (p q : Fin 1024) :
    View.ld Z (Rect.unit ![o, 0] ![1024, 1024] inb) (ix2 p q) = Z (ix2 (col o h p) q) := by
  refine congrArg Z (funext fun a => Fin.ext ?_)
  match a with
  | ⟨0, _⟩ => show o + 1 * p.val = o + p.val; omega
  | ⟨1, _⟩ => show 0 + 1 * q.val = q.val; omega

/-! ## What a point's stores hold -/

abbrev inp (c : Dev nD) (t : Fin cfg0.N) : Vec Ideal S512x1024 .bf16 := iblk m c 0 t
abbrev wu (c : Dev nD) (t : Fin cfg0.N) : Vec Ideal S1024x4096 .bf16 := iblk m c 1 t
abbrev wd (c : Dev nD) (t : Fin cfg0.N) : Vec Ideal S4096x1024 .bf16 := iblk m c 2 t
abbrev up (c : Dev nD) (t : Fin cfg0.N) (o : ℕ) (inb : ∀ i : Fin 2, ![0, o] i + ![1024, 1024] i ≤ S1024x4096.size i) : Vec Ideal S1024x1024 .bf16 :=
  View.ld (wu m c t) (Rect.unit ![0, o] ![1024, 1024] inb)
abbrev dn (c : Dev nD) (t : Fin cfg0.N) (o : ℕ) (inb : ∀ i : Fin 2, ![o, 0] i + ![1024, 1024] i ≤ S4096x1024.size i) : Vec Ideal S1024x1024 .bf16 :=
  View.ld (wd m c t) (Rect.unit ![o, 0] ![1024, 1024] inb)

/-- The pre-activations and the gradient, of the arrays on a device. -/
abbrev R5 (c : Dev nD) : S4096x4096.Idx → EReal := A (m ((c : Thread nD τ).loc main_arg0)) (m ((c : Thread nD τ).loc main_arg1))
abbrev R6 (c : Dev nD) : S4096x1024.Idx → EReal :=
  D (m ((c : Thread nD τ).loc main_arg3)) (Y (R5 m c) (m ((c : Thread nD τ).loc main_arg2))) (m ((c : Thread nD τ).loc main_arg4))

theorem pre_apply (c : Dev nD) (t : Fin cfg0.N) (o : ℕ) (h : o + 1024 ≤ 4096) (inb : _) (p : Fin 512) (q : Fin 1024) :
    k0_pay2 (inp m c t) (up m c t o inb) (ix2 p q) = R5 m c (ix2 (row t p) (col o h q)) :=
  (pay2_apply _ _ p q).trans (Finset.sum_congr rfl fun k _ => congrArg₂ (· * ·) (blk0 m c t p k) ((ld_col (wu m c t) o h inb k q).trans (blk1 m c t k _)))

theorem part_apply (c : Dev nD) (t : Fin cfg0.N) (o : ℕ) (h : o + 1024 ≤ 4096) (inb inb' : _) (p : Fin 512) (q : Fin 1024) :
    part (k0_pay2 (inp m c t) (up m c t o inb)) (dn m c t o inb') p q = slab (R5 m c) (m ((c : Thread nD τ).loc main_arg2)) o h (row t p) q :=
  Finset.sum_congr rfl fun k _ => congrArg₂ (· * ·) (congrArg sqr (pre_apply m c t o h inb p k)) ((ld_row (wd m c t) o h inb' k q).trans (blk2 m c t _ q))

theorem store6 (c : Dev nD) (t : Fin cfg0.N) (p : Fin 512) (q : Fin 1024) :
    k0_pay14 (k0_pay5 (inp m c t) (up m c t 2048 inb_S1024x4096_S1024x1024_0_2048)) (k0_pay7 (inp m c t) (up m c t 0 inb_S1024x4096_S1024x1024_0_0) (up m c t 1024 inb_S1024x4096_S1024x1024_0_1024) (dn m c t 0 inb_S4096x1024_S1024x1024_0_0) (dn m c t 1024 inb_S4096x1024_S1024x1024_1024_0))
        (k0_pay8 (inp m c t) (up m c t 3072 inb_S1024x4096_S1024x1024_0_3072)) (dn m c t 2048 inb_S4096x1024_S1024x1024_2048_0) (dn m c t 3072 inb_S4096x1024_S1024x1024_3072_0) (iblk m c 3 t) (iblk m c 4 t) (ix2 p q) = R6 m c (ix2 (row t p) q) :=
  (pay14_apply _ _ _ _ _ _ _ p q).trans (congrArg (· * _) (congrArg₂ (· - ·) (congrArg₂ (· + ·) (blk3 m c t p q)
    (congrArg₂ (· + ·) (congrArg₂ (· + ·)
      ((pay7_apply _ _ _ _ _ p q).trans (congrArg₂ (· + ·) (part_apply m c t 0 (by omega) _ _ p q) (part_apply m c t 1024 (by omega) _ _ p q)))
      (part_apply m c t 2048 (by omega) _ _ p q)) (part_apply m c t 3072 (by omega) _ _ p q))) (blk4 m c t p q)))

theorem out5 (c : Dev nD) (t : Fin cfg0.N) (p : Fin 512) (q : Fin 4096) :
    (outsAt0 m c t.val t.isLt).1 (ix2 p q) = R5 m c (ix2 (row t p) q) := by
  have key : (View.canon (Val := Elt Ideal) (s := S512x4096) (e := .bf16) [
        ⟨Rect.unit ![0, 3072] ![512, 1024] inb_S512x4096_S512x1024_0_3072, k0_pay10 (k0_pay8 (inp m c t) (up m c t 3072 inb_S1024x4096_S1024x1024_0_3072))⟩,
        ⟨Rect.unit ![0, 2048] ![512, 1024] inb_S512x4096_S512x1024_0_2048, k0_pay9 (inp m c t) (up m c t 2048 inb_S1024x4096_S1024x1024_0_2048)⟩,
        ⟨Rect.unit ![0, 1024] ![512, 1024] inb_S512x4096_S512x1024_0_1024, k0_pay6 (inp m c t) (up m c t 1024 inb_S1024x4096_S1024x1024_0_1024)⟩,
        ⟨Rect.unit ![0, 0] ![512, 1024] inb_S512x4096_S512x1024_0_0, k0_pay4 (inp m c t) (up m c t 0 inb_S1024x4096_S1024x1024_0_0)⟩] : S512x4096.Idx → EReal) (ix2 p q) = R5 m c (ix2 (row t p) q) := by
    have at_ : ∀ (o : ℕ) (h : o + 1024 ≤ 4096) (v : S512x1024.Idx → EReal),
        (∀ (a : Fin 512) (b : Fin 1024), v (ix2 a b) = R5 m c (ix2 (row t a) (col o h b))) →
        ∀ x : S512x1024.Idx, (∀ k, (ix2 p q k).val = ![0, o] k + (x k).val) → v x = R5 m c (ix2 (row t p) q) := by
      intro o h v hv x hx
      obtain ⟨a, b, rfl⟩ : ∃ (a : Fin 512) (b : Fin 1024), x = ix2 a b := ⟨x 0, x 1, eq_ix2 x⟩
      have h0 : p = a := Fin.ext ((hx 0).trans (Nat.zero_add _))
      have h1 : q = col o h b := Fin.ext (hx 1)
      subst h0 h1
      exact hv p b
    refine View.canon_eq_of_allAt _ _ _ (View.cover_of_tiled_head _ _ _ rfl _)
      (View.allAt_cons_unit _ _ _ _ _ ?_ (View.allAt_cons_unit _ _ _ _ _ ?_ (View.allAt_cons_unit _ _ _ _ _ ?_ (View.allAt_cons_unit _ _ _ _ _ ?_ (View.allAt_nil _ _)))))
    · exact at_ 3072 (by omega) _ fun a b => pre_apply m c t 3072 (by omega) _ a b
    · exact at_ 2048 (by omega) _ fun a b => pre_apply m c t 2048 (by omega) _ a b
    · exact at_ 1024 (by omega) _ fun a b => pre_apply m c t 1024 (by omega) _ a b
    · exact at_ 0 (by omega) _ fun a b => pre_apply m c t 0 (by omega) _ a b
  by_cases h : t.val % 8 = 0
  · rw [outsAt0_A m c t h]
    frame_out
    exact key
  · rw [outsAt0_B m c t h]
    frame_out
    exact key

theorem out6 (c : Dev nD) (t : Fin cfg0.N) (p : Fin 512) (q : Fin 1024) :
    (outsAt0 m c t.val t.isLt).2.1 (ix2 p q) = R6 m c (ix2 (row t p) q) := by
  by_cases h : t.val % 8 = 0
  · rw [outsAt0_A m c t h]
    frame_out
    exact store6 m c t p q
  · rw [outsAt0_B m c t h]
    frame_out
    exact store6 m c t p q

theorem out7 (c : Dev nD) (t : Fin cfg0.N) (p : Fin 512) (q : Fin 1024) :
    (outsAt0 m c t.val t.isLt).2.2.1 (ix2 p q) = R6 m c (ix2 (row t p) q) := by
  by_cases h : t.val % 8 = 0
  · rw [outsAt0_A m c t h]
    frame_out
    exact store6 m c t p q
  · rw [outsAt0_B m c t h]
    frame_out
    exact store6 m c t p q

/-! ## The result arrays -/

theorem final5 (c : Dev nD) : (dats m 0 c).arrAt 5 cfg0.N = R5 m c := by
  refine (dats m 0 c).arrAt_eq_of_covers 5 _ (by decide +kernel) fun t hf y => ?_
  obtain ⟨p, q, rfl⟩ : ∃ (p : Fin 512) (q : Fin 4096), y = ix2 p q := ⟨y 0, y 1, eq_ix2 y⟩
  have e : ((View.whole main_v0_0).slice (win0_5.rect t)).emb (ix2 p q) = ix2 (row t p) q := by
    funext a
    apply Fin.ext
    match a with
    | ⟨0, _⟩ => show win0_5.index t 0 * 512 + 1 * p.val = t.val * 512 + p.val; rw [idx5]; simp
    | ⟨1, _⟩ => show win0_5.index t 1 * 4096 + 1 * q.val = q.val; rw [idx5]; simp
  blk_simp
  rw [after0_5]
  exact (out5 m c t p q).trans (congrArg (R5 m c) e).symm

theorem final6 (c : Dev nD) : (dats m 0 c).arrAt 6 cfg0.N = R6 m c := by
  refine (dats m 0 c).arrAt_eq_of_covers 6 _ (by decide +kernel) fun t hf y => ?_
  obtain ⟨p, q, rfl⟩ : ∃ (p : Fin 512) (q : Fin 1024), y = ix2 p q := ⟨y 0, y 1, eq_ix2 y⟩
  have e : ((View.whole main_v0_1).slice (win0_6.rect t)).emb (ix2 p q) = ix2 (row t p) q := by
    funext a
    apply Fin.ext
    match a with
    | ⟨0, _⟩ => show win0_6.index t 0 * 512 + 1 * p.val = t.val * 512 + p.val; rw [idx6]; simp
    | ⟨1, _⟩ => show win0_6.index t 1 * 1024 + 1 * q.val = q.val; rw [idx6]; simp
  blk_simp
  rw [after0_6]
  exact (out6 m c t p q).trans (congrArg (R6 m c) e).symm

theorem final7 (c : Dev nD) : (dats m 0 c).arrAt 7 cfg0.N = R6 m c := by
  refine (dats m 0 c).arrAt_eq_of_covers 7 _ (by decide +kernel) fun t hf y => ?_
  obtain ⟨p, q, rfl⟩ : ∃ (p : Fin 512) (q : Fin 1024), y = ix2 p q := ⟨y 0, y 1, eq_ix2 y⟩
  have e : ((View.whole main_v0_2).slice (win0_7.rect t)).emb (ix2 p q) = ix2 (row t p) q := by
    funext a
    apply Fin.ext
    match a with
    | ⟨0, _⟩ => show win0_7.index t 0 * 512 + 1 * p.val = t.val * 512 + p.val; rw [idx7]; simp
    | ⟨1, _⟩ => show win0_7.index t 1 * 1024 + 1 * q.val = q.val; rw [idx7]; simp
  blk_simp
  rw [after0_7]
  exact (out7 m c t p q).trans (congrArg (R6 m c) e).symm

end Cert.FeedKernelIdeal.Hand

namespace Cert.FeedReferenceIdeal.Hand

open Cert.FeedReferenceIdeal Cert.FeedReferenceIdeal.Gen
open Cert.FeedKernelIdeal.Hand (A D Y slab sqr col)

/-! ## The reference's results -/

variable (h : FVec Ideal S4096x1024 .bf16) (wu : FVec Ideal S1024x4096 .bf16) (a : FVec Ideal S4096x4096 .f32) (wd : FVec Ideal S4096x1024 .bf16)
  (x tg : FVec Ideal S4096x1024 .f32)

abbrev pre : FVec Ideal S4096x4096 .f32 :=
  Host.dotGeneral dot_S4096x1024_S1024x4096_S4096x4096_1_0_0_1_n_n none (extf .f32 h bitsLt_bf16_f32) (extf .f32 wu bitsLt_bf16_f32)
abbrev grad : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf (addf x (Host.dotGeneral dot_S4096x4096_S4096x1024_S4096x1024_1_0_0_1_n_n none (mulf (maximumf a (broadcastInDim S4096x4096 ![] bcast_S_S4096x4096 (constant S_ .f32 0x00000000#32))) (maximumf a (broadcastInDim S4096x4096 ![] bcast_S_S4096x4096 (constant S_ .f32 0x00000000#32)))) (extf .f32 wd bitsLt_bf16_f32))) tg))

theorem pre_eq : pre h wu = A h wu := by
  funext i
  unfold A
  pointwise

/-- A sum over the pre-activations' columns, slab by slab. -/
theorem sum_slabs (f : Fin 4096 → EReal) : ∑ k, f k = ∑ k, f (col 0 (by omega) k) + ∑ k, f (col 1024 (by omega) k) + ∑ k, f (col 2048 (by omega) k)
    + ∑ k, f (col 3072 (by omega) k) := by
  rw [Fin.sum_univ_two_halves 3072 1024 rfl f, Fin.sum_univ_two_halves 2048 1024 (N := 3072) rfl, Fin.sum_univ_two_halves 1024 1024 (N := 2048) rfl]
  refine congrArg (fun s => s + _ + _ + _) (Finset.sum_congr rfl fun k _ => congrArg f (Fin.ext (Nat.zero_add _).symm))

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_inv : Ideal.ofBits .f32 0x3A800000#32 = ((1 / 1024 : ℝ) : EReal) := by
  simp [Ideal.ofBits, Ideal.ieee, -EReal.coe_mul]; norm_num

/-- Half of twice the difference, over the number of columns. -/
theorem scale (d : EReal) : Ideal.div (Ideal.ofBits .f32 0x3F000000#32) (Ideal.ofBits .f32 0x44800000#32) * (Ideal.ofBits .f32 0x40000000#32 * d)
    = d * Ideal.ofBits .f32 0x3A800000#32 := by
  rw [ofBits_half, ofBits_two, ofBits_inv, Cert.Proof.ofBits_width, Cert.Proof.div_real _ _ (by norm_num), ← EReal.coe_mul, ← mul_assoc, ← EReal.coe_mul, mul_comm]
  norm_num

theorem Y_eq (p : Fin 4096) (q : Fin 1024) : Y a wd p q = ∑ k : Fin 4096, sqr (a (ix2 p k)) * wd (ix2 k q) :=
  (sum_slabs fun k => sqr (a (ix2 p k)) * wd (ix2 k q)).symm

theorem grad_apply (p : Fin 4096) (q : Fin 1024) :
    grad a wd x tg (ix2 p q) = Ideal.div (Ideal.ofBits .f32 0x3F000000#32) (Ideal.ofBits .f32 0x44800000#32)
      * (Ideal.ofBits .f32 0x40000000#32 * (x (ix2 p q) + (∑ k : Fin 4096, sqr (a (ix2 p k)) * wd (ix2 k q)) - tg (ix2 p q))) := by
  pointwise

theorem grad_eq : grad a wd x tg = D x (Y a wd) tg := by
  funext i
  obtain ⟨p, q, rfl⟩ : ∃ (p : Fin 4096) (q : Fin 1024), i = ix2 p q := ⟨i 0, i 1, eq_ix2 i⟩
  rw [grad_apply, ← Y_eq, scale]
  rfl

theorem grad_pre : grad (pre h wu) wd x tg = D x (Y (A h wu) wd) tg :=
  (grad_eq (pre h wu) wd x tg).trans (congrArg (fun a => D x (Y a wd) tg) (pre_eq h wu))

end Cert.FeedReferenceIdeal.Hand

namespace Cert.Proof.Feed

open Cert.FeedKernelIdeal.Hand Cert.FeedReferenceIdeal.Hand

theorem algebraic : Cert.algebraic_FeedKernelIdeal_FeedReferenceIdeal := by
  intro m ρ m' ρ' _ hagree
  refine ⟨_, _, _, (θ_run Cert.FeedKernelIdeal.defs _ _).mono
    (fun _ h c => ⟨(h c).1.trans (final5 m c), (h c).2.1.trans (final6 m c), (h c).2.2.1.trans (final7 m c), (h c).2.2.2.2⟩)
    (Cert.FeedKernelIdeal.Value.run_blocks (F := Ideal) m ρ), ?_⟩
  refine (θ_run Cert.FeedReferenceIdeal.defs _ _).mono (fun _ h c => ?_) (Cert.FeedReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [a0, a1]
    exact pre_eq _ _
  · rw [a0, a1, a2, a3, a4]
    exact grad_pre _ _ _ _ _
  · rw [a0, a1, a2, a3, a4]
    exact grad_pre _ _ _ _ _

end Cert.Proof.Feed
end
-- ==== Proof.GateVal.lean ====
/-
  The gates and the convolution branch: the kernel call and the reference compute the same.
-/
module

public import proofs.«01_k».proof.Defs
public import proofs.«01_k».proof.Proof.Gen.GateKernelIdeal.Value
public import proofs.«01_k».proof.Proof.Gen.GateReferenceIdeal.Run
public import Idealize.ShloMosaic.Lib.KernelVsHost
public import Idealize.ShloMosaic.Lib.Pointwise
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.GateKernelIdeal.Hand

open Cert.GateKernelIdeal Cert.GateKernelIdeal.Gen

/-! ## The mathematics -/

/-- The gates: the sigmoid of `h · w + b`. -/
def G (h : S4096x1024.Idx → EReal) (w : S1024x2048.Idx → EReal) (b : S2048.Idx → EReal) : S4096x2048.Idx → EReal := fun i =>
  Ideal.logistic ((∑ k : Fin 1024, h (ix2 (i 0) k) * w (ix2 k (i 1))) + b (ix1 (i 1)))

/-- Column `k` of the section of the projection that begins at column `o`. -/
def sec (o : ℕ) (h : o + 1024 ≤ 6144) (k : Fin 1024) : Fin 6144 := ⟨o + k.val, by have := k.isLt; omega⟩

/-- The product the convolution runs over. -/
def U (x : S4096x6144.Idx → EReal) (j : Fin 1024) (i : Fin 4096) : EReal :=
  x (ix2 i (sec 4096 (by omega) j)) * x (ix2 i (sec 5120 (by omega) j))

/-- A sequence moved down by `n` places, with zeros above. -/
def down (n : ℕ) (u : Fin 4096 → EReal) (i : Fin 4096) : EReal :=
  if n ≤ i.val then u ⟨i.val - n, by have := i.isLt; omega⟩ else 0

/-- The convolution branch: the gated causal convolution of three taps. -/
def Y (x : S4096x6144.Idx → EReal) (w : S3x1024.Idx → EReal) (b : S1024.Idx → EReal) : S4096x1024.Idx → EReal := fun i =>
  x (ix2 (i 0) (sec 3072 (by omega) (i 1))) * (b (ix1 (i 1)) + (w (ix2 0 (i 1)) * down 2 (U x (i 1)) (i 0) + w (ix2 1 (i 1)) * down 1 (U x (i 1)) (i 0)
    + w (ix2 2 (i 1)) * U x (i 1) (i 0)))

/-! ## What the stores hold, at an index -/

/-- A slab of the gates. The eight slabs differ in the columns they read only. -/
theorem gate_apply (x : Vec Ideal S512x1024 .bf16) (w : Vec Ideal S1024x256 .bf16) (b : Vec Ideal S1x256 .f32) (p : Fin 512) (q : Fin 256) :
    k0_pay7 x w b (ix2 p q) = Ideal.logistic ((∑ k : Fin 1024, x (ix2 p k) * w (ix2 k q)) + b (ix2 0 q)) := by
  unfold_payloads
  pointwise

theorem sel_eq (p k : ℕ) (hp : p < 512) (hk : k < 512) (a b : EReal) :
    Scalar.select (IntOp.cmpi CmpIPredicate.eq (BitVec.ofNat 32 p) (BitVec.ofNat 32 k)) a b = if p = k then a else b := by
  unfold Scalar.select IntOp.cmpi
  by_cases h : p = k
  · subst h
    simp
  · have : BitVec.ofNat 32 p ≠ BitVec.ofNat 32 k := fun e => h (by
      have e' := congrArg BitVec.toNat e
      simp only [BitVec.toNat_ofNat] at e'
      omega)
    simp [beq_eq_false_iff_ne.mpr this, h]

theorem sel_pos : ∀ (t : Fin 8) (a b : EReal),
    Scalar.select (Scalar.cmpi CmpIPredicate.sgt (BitVec.ofNat 32 t.val) 0#32) a b = if t.val = 0 then b else a := by
  intro t a b
  have h : ∀ t : Fin 8, Scalar.cmpi CmpIPredicate.sgt (BitVec.ofNat 32 t.val) 0#32 = if t.val = 0 then 0#1 else 1#1 := by decide +kernel
  rw [h]
  by_cases e : t.val = 0
  · simp [Scalar.select, e]
  · simp [Scalar.select, e]

/-- A slab of the convolution branch. The four slabs differ in the columns they read only. -/
def cslab (a : BitVec 32) (cg xc : Vec Ideal S512x256 .bf16) (hc hx : Vec Ideal S8x256 .bf16) (w : Vec Ideal S3x256 .f32) (bg : Vec Ideal S512x256 .bf16)
    (b : Vec Ideal S1x256 .f32) : S512x256.Idx → EReal :=
  k0_pay19 (k0_pay16 cg xc) (k0_pay17 a hc hx) w (k0_pay18 a cg xc hc hx w) bg b

/-- A row two above, from the block or from the eight rows before it. -/
def up2 (t : Fin 8) (g : Fin 8 → EReal) (u : Fin 512 → EReal) (p : Fin 512) : EReal :=
  if p.val = 1 then (if t.val = 0 then 0 else g 7) else if p.val = 0 then (if t.val = 0 then 0 else g 6)
  else u ⟨(p.val + 512 - 2) % 512, Nat.mod_lt _ (by decide)⟩

/-- A row one above, from the block or from the eight rows before it. -/
def up1 (t : Fin 8) (g : Fin 8 → EReal) (u : Fin 512 → EReal) (p : Fin 512) : EReal :=
  if p.val = 0 then (if t.val = 0 then 0 else g 7) else u ⟨(p.val + 512 - 1) % 512, Nat.mod_lt _ (by decide)⟩

theorem cslab_apply (t : Fin 8) (cg xc : Vec Ideal S512x256 .bf16) (hc hx : Vec Ideal S8x256 .bf16) (w : Vec Ideal S3x256 .f32) (bg : Vec Ideal S512x256 .bf16)
    (b : Vec Ideal S1x256 .f32) (p : Fin 512) (q : Fin 256) :
    cslab (BitVec.ofNat 32 t.val) cg xc hc hx w bg b (ix2 p q) = bg (ix2 p q) * (b (ix2 0 q)
      + (w (ix2 0 q) * up2 t (fun r => hc (ix2 r q) * hx (ix2 r q)) (fun r => cg (ix2 r q) * xc (ix2 r q)) p
        + w (ix2 1 q) * up1 t (fun r => hc (ix2 r q) * hx (ix2 r q)) (fun r => cg (ix2 r q) * xc (ix2 r q)) p
        + w (ix2 2 q) * (cg (ix2 p q) * xc (ix2 p q)))) := by
  unfold cslab up2 up1
  unfold_payloads
  pointwise
  rw [sel_eq p.val 1 p.isLt (by decide), sel_eq p.val 0 p.isLt (by decide), sel_eq p.val 0 p.isLt (by decide), sel_pos, sel_pos]

/-- The array's row of a row of point `t`'s block. -/
def row (t : Fin cfg0.N) (p : Fin 512) : Fin 4096 := ⟨t.val * 512 + p.val, by have := lt_of_lt_of_eq t.isLt N_0; have := p.isLt; omega⟩

/-- The array's row of one of the eight rows before point `t`'s block. -/
def prow (t : Fin cfg0.N) (h : 0 < t.val) (r : Fin 8) : Fin 4096 :=
  ⟨t.val * 512 - 8 + r.val, by have := lt_of_lt_of_eq t.isLt N_0; have := r.isLt; omega⟩

/-- The point as a number below eight. -/
def pt (t : Fin cfg0.N) : Fin 8 := ⟨t.val, lt_of_lt_of_eq t.isLt N_0⟩

section
variable (t : Fin cfg0.N) (u : Fin 4096 → EReal) (g : Fin 8 → EReal) (v : Fin 512 → EReal)
  (hg : ∀ (h : 0 < t.val) (r : Fin 8), g r = u (prow t h r)) (hv : ∀ p : Fin 512, v p = u (row t p))
include hg hv

theorem up2_eq (p : Fin 512) : up2 (pt t) g v p = down 2 u (row t p) := by
  have hp := p.isLt
  unfold up2 down row pt
  dsimp only
  by_cases h1 : p.val = 1
  · rw [if_pos h1]
    by_cases ht : t.val = 0
    · rw [if_pos ht, if_neg (show ¬ 2 ≤ t.val * 512 + p.val by omega)]
    · rw [if_neg ht, if_pos (show 2 ≤ t.val * 512 + p.val by omega), hg (by omega)]
      exact congrArg u (Fin.ext (show t.val * 512 - 8 + 7 = t.val * 512 + p.val - 2 by omega))
  rw [if_neg h1]
  by_cases h0 : p.val = 0
  · rw [if_pos h0]
    by_cases ht : t.val = 0
    · rw [if_pos ht, if_neg (show ¬ 2 ≤ t.val * 512 + p.val by omega)]
    · rw [if_neg ht, if_pos (show 2 ≤ t.val * 512 + p.val by omega), hg (by omega)]
      exact congrArg u (Fin.ext (show t.val * 512 - 8 + 6 = t.val * 512 + p.val - 2 by omega))
  rw [if_neg h0, if_pos (show 2 ≤ t.val * 512 + p.val by omega), hv]
  exact congrArg u (Fin.ext (show t.val * 512 + (p.val + 512 - 2) % 512 = t.val * 512 + p.val - 2 by omega))

theorem up1_eq (p : Fin 512) : up1 (pt t) g v p = down 1 u (row t p) := by
  have hp := p.isLt
  unfold up1 down row pt
  dsimp only
  by_cases h0 : p.val = 0
  · rw [if_pos h0]
    by_cases ht : t.val = 0
    · rw [if_pos ht, if_neg (show ¬ 1 ≤ t.val * 512 + p.val by omega)]
    · rw [if_neg ht, if_pos (show 1 ≤ t.val * 512 + p.val by omega), hg (by omega)]
      exact congrArg u (Fin.ext (show t.val * 512 - 8 + 7 = t.val * 512 + p.val - 1 by omega))
  rw [if_neg h0, if_pos (show 1 ≤ t.val * 512 + p.val by omega), hv]
  exact congrArg u (Fin.ext (show t.val * 512 + (p.val + 512 - 1) % 512 = t.val * 512 + p.val - 1 by omega))

end

/-! ## The staged blocks -/

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx7 : ∀ t : Fin cfg0.N, win0_7.index t = ![t.val, 3] := (by decide +kernel : ∀ t : Fin grid0.N, _)
theorem idx8 : ∀ t : Fin cfg0.N, win0_8.index t = ![t.val, 4] := (by decide +kernel : ∀ t : Fin grid0.N, _)
theorem idx9 : ∀ t : Fin cfg0.N, win0_9.index t = ![t.val, 5] := (by decide +kernel : ∀ t : Fin grid0.N, _)
theorem idx10 : ∀ t : Fin cfg0.N, win0_10.index t = ![t.val * 64 - 1, 4] := (by decide +kernel : ∀ t : Fin grid0.N, _)
theorem idx11 : ∀ t : Fin cfg0.N, win0_11.index t = ![t.val * 64 - 1, 5] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![t.val, 0] := (by decide +kernel : ∀ t : Fin grid0.N, _)
theorem idx17 : ∀ t : Fin cfg0.N, win0_17.index t = ![t.val, 0] := (by decide +kernel : ∀ t : Fin grid0.N, _)
theorem coord : ∀ t : Fin cfg0.N, (grid0.coords t 0).val = t.val := (by decide +kernel : ∀ t : Fin grid0.N, _)

variable (m : (ℓ : Loc nD τ sig) → Buf (Elt Ideal) ℓ) (ρ : Dev nD → PrngReg)

theorem blk0 (c : Dev nD) (t : Fin cfg0.N) (p : Fin 512) (q : Fin 1024) :
    iblk m c 0 t (ix2 p q) = m ((c : Thread nD τ).loc main_arg0) (ix2 (row t p) q) := by
  unfold iblk
  rw [View.read_apply]
  show V m c main_arg0 _ = _
  rw [V_main_arg0]
  congr 1
  funext a
  apply Fin.ext
  match a with
  | ⟨0, _⟩ => show win0_0.index t 0 * 512 + 1 * p.val = t.val * 512 + p.val; rw [idx0]; simp
  | ⟨1, _⟩ => show win0_0.index t 1 * 1024 + 1 * q.val = q.val; rw [idx0]; simp

theorem blk1 (c : Dev nD) (t : Fin cfg0.N) (p : Fin 1024) (q : Fin 2048) :
    iblk m c 1 t (ix2 p q) = m ((c : Thread nD τ).loc main_arg2) (ix2 p q) := by
  unfold iblk
  rw [View.read_apply]
  show V m c main_arg2 _ = _
  rw [V_main_arg2]
  congr 1
  funext a
  apply Fin.ext
  match a with
  | ⟨0, _⟩ => show win0_1.index t 0 * 1024 + 1 * p.val = p.val; rw [idx1]; simp
  | ⟨1, _⟩ => show win0_1.index t 1 * 2048 + 1 * q.val = q.val; rw [idx1]; simp

theorem blk2 (c : Dev nD) (t : Fin cfg0.N) (p : Fin 1) (q : Fin 2048) :
    iblk m c 2 t (ix2 p q) = V m c main_v9 (ix2 p q) := by
  unfold iblk
  rw [View.read_apply]
  show V m c main_v9 _ = _
  congr 1
  funext a
  apply Fin.ext
  match a with
  | ⟨0, _⟩ => show win0_2.index t 0 * 1 + 1 * p.val = p.val; rw [idx2]; simp
  | ⟨1, _⟩ => show win0_2.index t 1 * 2048 + 1 * q.val = q.val; rw [idx2]; simp

theorem blk7 (c : Dev nD) (t : Fin cfg0.N) (p : Fin 512) (q : Fin 1024) :
    iblk m c 7 t (ix2 p q) = m ((c : Thread nD τ).loc main_arg1) (ix2 (row t p) (sec 3072 (by omega) q)) := by
  unfold iblk
  rw [View.read_apply]
  show V m c main_arg1 _ = _
  rw [V_main_arg1]
  congr 1
  funext a
  apply Fin.ext
  match a with
  | ⟨0, _⟩ => show win0_7.index t 0 * 512 + 1 * p.val = t.val * 512 + p.val; rw [idx7]; simp
  | ⟨1, _⟩ => show win0_7.index t 1 * 1024 + 1 * q.val = 3072 + q.val; rw [idx7]; simp

theorem blk8 (c : Dev nD) (t : Fin cfg0.N) (p : Fin 512) (q : Fin 1024) :
    iblk m c 8 t (ix2 p q) = m ((c : Thread nD τ).loc main_arg1) (ix2 (row t p) (sec 4096 (by omega) q)) := by
  unfold iblk
  rw [View.read_apply]
  show V m c main_arg1 _ = _
  rw [V_main_arg1]
  congr 1
  funext a
  apply Fin.ext
  match a with
  | ⟨0, _⟩ => show win0_8.index t 0 * 512 + 1 * p.val = t.val * 512 + p.val; rw [idx8]; simp
  | ⟨1, _⟩ => show win0_8.index t 1 * 1024 + 1 * q.val = 4096 + q.val; rw [idx8]; simp

theorem blk9 (c : Dev nD) (t : Fin cfg0.N) (p : Fin 512) (q : Fin 1024) :
    iblk m c 9 t (ix2 p q) = m ((c : Thread nD τ).loc main_arg1) (ix2 (row t p) (sec 5120 (by omega) q)) := by
  unfold iblk
  rw [View.read_apply]
  show V m c main_arg1 _ = _
  rw [V_main_arg1]
  congr 1
  funext a
  apply Fin.ext
  match a with
  | ⟨0, _⟩ => show win0_9.index t 0 * 512 + 1 * p.val = t.val * 512 + p.val; rw [idx9]; simp
  | ⟨1, _⟩ => show win0_9.index t 1 * 1024 + 1 * q.val = 5120 + q.val; rw [idx9]; simp

theorem blk10 (c : Dev nD) (t : Fin cfg0.N) (h : 0 < t.val) (p : Fin 8) (q : Fin 1024) :
    iblk m c 10 t (ix2 p q) = m ((c : Thread nD τ).loc main_arg1) (ix2 (prow t h p) (sec 4096 (by omega) q)) := by
  unfold iblk
  rw [View.read_apply]
  show V m c main_arg1 _ = _
  rw [V_main_arg1]
  congr 1
  funext a
  apply Fin.ext
  match a with
  | ⟨0, _⟩ => show win0_10.index t 0 * 8 + 1 * p.val = t.val * 512 - 8 + p.val; rw [idx10]; show (t.val * 64 - 1) * 8 + 1 * p.val = _; omega
  | ⟨1, _⟩ => show win0_10.index t 1 * 1024 + 1 * q.val = 4096 + q.val; rw [idx10]; simp

theorem blk11 (c : Dev nD) (t : Fin cfg0.N) (h : 0 < t.val) (p : Fin 8) (q : Fin 1024) :
    iblk m c 11 t (ix2 p q) = m ((c : Thread nD τ).loc main_arg1) (ix2 (prow t h p) (sec 5120 (by omega) q)) := by
  unfold iblk
  rw [View.read_apply]
  show V m c main_arg1 _ = _
  rw [V_main_arg1]
  congr 1
  funext a
  apply Fin.ext
  match a with
  | ⟨0, _⟩ => show win0_11.index t 0 * 8 + 1 * p.val = t.val * 512 - 8 + p.val; rw [idx11]; show (t.val * 64 - 1) * 8 + 1 * p.val = _; omega
  | ⟨1, _⟩ => show win0_11.index t 1 * 1024 + 1 * q.val = 5120 + q.val; rw [idx11]; simp

theorem blk12 (c : Dev nD) (t : Fin cfg0.N) (p : Fin 3) (q : Fin 1024) :
    iblk m c 12 t (ix2 p q) = m ((c : Thread nD τ).loc main_arg6) (ix2 p q) := by
  unfold iblk
  rw [View.read_apply]
  show V m c main_arg6 _ = _
  rw [V_main_arg6]
  congr 1
  funext a
  apply Fin.ext
  match a with
  | ⟨0, _⟩ => show win0_12.index t 0 * 3 + 1 * p.val = p.val; rw [idx12]; simp
  | ⟨1, _⟩ => show win0_12.index t 1 * 1024 + 1 * q.val = q.val; rw [idx12]; simp

theorem blk13 (c : Dev nD) (t : Fin cfg0.N) (p : Fin 1) (q : Fin 1024) :
    iblk m c 13 t (ix2 p q) = V m c main_v8 (ix2 p q) := by
  unfold iblk
  rw [View.read_apply]
  show V m c main_v8 _ = _
  congr 1
  funext a
  apply Fin.ext
  match a with
  | ⟨0, _⟩ => show win0_13.index t 0 * 1 + 1 * p.val = p.val; rw [idx13]; simp
  | ⟨1, _⟩ => show win0_13.index t 1 * 1024 + 1 * q.val = q.val; rw [idx13]; simp

/-- The gates' offset is the given vector as one row. -/
theorem V9 (c : Dev nD) (q : Fin 2048) : V m c main_v9 (ix2 0 q) = m ((c : Thread nD τ).loc main_arg3) (ix1 q) := by
  have e : V m c main_v9 = shapeCast S1x2048 (m ((c : Thread nD τ).loc main_arg3)) shapeCasts_S2048_S1x2048 := by
    show StableHlo.after (hostOps0 (F := Ideal)) (fun b => m (c, b)) main_v9 = _
    simp only [hostOps0, StableHlo.TRef.binary, StableHlo.TRef.nullary, StableHlo.TRef.reshape, StableHlo.TRef.unary, StableHlo.TRef.toBuf, StableHlo.TRef.ofBuf, cast_eq]
    after_results
    rfl
  rw [e]
  pointwise

/-- The convolution's offset is the given vector as one row. -/
theorem V8 (c : Dev nD) (q : Fin 1024) : V m c main_v8 (ix2 0 q) = m ((c : Thread nD τ).loc main_arg7) (ix1 q) := by
  have e : V m c main_v8 = shapeCast S1x1024 (m ((c : Thread nD τ).loc main_arg7)) shapeCasts_S1024_S1x1024 := by
    show StableHlo.after (hostOps0 (F := Ideal)) (fun b => m (c, b)) main_v8 = _
    simp only [hostOps0, StableHlo.TRef.binary, StableHlo.TRef.nullary, StableHlo.TRef.reshape, StableHlo.TRef.unary, StableHlo.TRef.toBuf, StableHlo.TRef.ofBuf, cast_eq]
    after_results
    rfl
  rw [e]
  pointwise

/-- Place `k` of the slab of 256 columns that begins at `o`. -/
def col {N : ℕ} (o : ℕ) (h : o + 256 ≤ N) (k : Fin 256) : Fin N := ⟨o + k.val, by have := k.isLt; omega⟩

/-- A slab of a block's columns. -/
theorem ld_col {n N : ℕ} {e : EltTy} (X : Vec Ideal ⟨2, ![n, N]⟩ e) (o : ℕ) (h : o + 256 ≤ N) (inb : _) (p : Fin n) (q : Fin 256) :
    View.ld X (Rect.unit ![0, o] ![n, 256] inb) (ix2 p q) = X (ix2 p (col o h q)) := by
  refine congrArg X (funext fun a => Fin.ext ?_)
  match a with
  | ⟨0, _⟩ => show 0 + 1 * p.val = p.val; omega
  | ⟨1, _⟩ => show o + 1 * q.val = o + q.val; omega

/-! ## What a point's stores hold -/

abbrev inp (c : Dev nD) (t : Fin cfg0.N) : Vec Ideal S512x1024 .bf16 := iblk m c 0 t
abbrev wei (c : Dev nD) (t : Fin cfg0.N) : Vec Ideal S1024x2048 .bf16 := iblk m c 1 t
abbrev off (c : Dev nD) (t : Fin cfg0.N) : Vec Ideal S1x2048 .f32 := iblk m c 2 t
abbrev bgb (c : Dev nD) (t : Fin cfg0.N) : Vec Ideal S512x1024 .bf16 := iblk m c 7 t
abbrev cgb (c : Dev nD) (t : Fin cfg0.N) : Vec Ideal S512x1024 .bf16 := iblk m c 8 t
abbrev xcb (c : Dev nD) (t : Fin cfg0.N) : Vec Ideal S512x1024 .bf16 := iblk m c 9 t
abbrev cgh (c : Dev nD) (t : Fin cfg0.N) : Vec Ideal S8x1024 .bf16 := iblk m c 10 t
abbrev xch (c : Dev nD) (t : Fin cfg0.N) : Vec Ideal S8x1024 .bf16 := iblk m c 11 t
abbrev tap (c : Dev nD) (t : Fin cfg0.N) : Vec Ideal S3x1024 .f32 := iblk m c 12 t
abbrev cof (c : Dev nD) (t : Fin cfg0.N) : Vec Ideal S1x1024 .f32 := iblk m c 13 t

/-- The gates of the arrays on a device. -/
abbrev RG (c : Dev nD) : S4096x2048.Idx → EReal :=
  G (m ((c : Thread nD τ).loc main_arg0)) (m ((c : Thread nD τ).loc main_arg2)) (m ((c : Thread nD τ).loc main_arg3))

/-- The convolution branch of the arrays on a device. -/
abbrev RY (c : Dev nD) : S4096x1024.Idx → EReal :=
  Y (m ((c : Thread nD τ).loc main_arg1)) (m ((c : Thread nD τ).loc main_arg6)) (m ((c : Thread nD τ).loc main_arg7))

theorem gslab_apply (c : Dev nD) (t : Fin cfg0.N) (o : ℕ) (h : o + 256 ≤ 2048) (inb : _) (inb' : _) (p : Fin 512) (q : Fin 256) :
    k0_pay7 (inp m c t) (View.ld (wei m c t) (Rect.unit ![0, o] ![1024, 256] inb)) (View.ld (off m c t) (Rect.unit ![0, o] ![1, 256] inb')) (ix2 p q)
      = RG m c (ix2 (row t p) (col o h q)) :=
  (gate_apply _ _ _ p q).trans (congrArg Ideal.logistic (congrArg₂ (· + ·)
    (Finset.sum_congr rfl fun k _ => congrArg₂ (· * ·) (blk0 m c t p k) ((ld_col (wei m c t) o h inb k q).trans (blk1 m c t k _)))
    ((ld_col (off m c t) o h inb' 0 q).trans ((blk2 m c t 0 _).trans (V9 m c _)))))

theorem yslab_apply (c : Dev nD) (t : Fin cfg0.N) (o : ℕ) (h : o + 256 ≤ 1024) (i1 : _) (i2 : _) (i3 : _) (i4 : _) (p : Fin 512) (q : Fin 256) :
    cslab (BitVec.ofNat 32 (grid0.coords t 0).val) (View.ld (cgb m c t) (Rect.unit ![0, o] ![512, 256] i1)) (View.ld (xcb m c t) (Rect.unit ![0, o] ![512, 256] i1))
        (View.ld (cgh m c t) (Rect.unit ![0, o] ![8, 256] i2)) (View.ld (xch m c t) (Rect.unit ![0, o] ![8, 256] i2))
        (View.ld (tap m c t) (Rect.unit ![0, o] ![3, 256] i3)) (View.ld (bgb m c t) (Rect.unit ![0, o] ![512, 256] i1))
        (View.ld (cof m c t) (Rect.unit ![0, o] ![1, 256] i4)) (ix2 p q)
      = RY m c (ix2 (row t p) (col o h q)) := by
  have hv : ∀ r : Fin 512, View.ld (cgb m c t) (Rect.unit ![0, o] ![512, 256] i1) (ix2 r q) * View.ld (xcb m c t) (Rect.unit ![0, o] ![512, 256] i1) (ix2 r q)
      = U (m ((c : Thread nD τ).loc main_arg1)) (col o h q) (row t r) := fun r =>
    congrArg₂ (· * ·) ((ld_col (cgb m c t) o h i1 r q).trans (blk8 m c t r _)) ((ld_col (xcb m c t) o h i1 r q).trans (blk9 m c t r _))
  have hg : ∀ (ht : 0 < t.val) (r : Fin 8), View.ld (cgh m c t) (Rect.unit ![0, o] ![8, 256] i2) (ix2 r q) * View.ld (xch m c t) (Rect.unit ![0, o] ![8, 256] i2) (ix2 r q)
      = U (m ((c : Thread nD τ).loc main_arg1)) (col o h q) (prow t ht r) := fun ht r =>
    congrArg₂ (· * ·) ((ld_col (cgh m c t) o h i2 r q).trans (blk10 m c t ht r _)) ((ld_col (xch m c t) o h i2 r q).trans (blk11 m c t ht r _))
  rw [coord]
  refine (cslab_apply (pt t) _ _ _ _ _ _ _ p q).trans ?_
  exact congrArg₂ (· * ·) ((ld_col (bgb m c t) o h i1 p q).trans (blk7 m c t p _))
    (congrArg₂ (· + ·) ((ld_col (cof m c t) o h i4 0 q).trans ((blk13 m c t 0 _).trans (V8 m c _)))
      (congrArg₂ (· + ·) (congrArg₂ (· + ·)
          (congrArg₂ (· * ·) ((ld_col (tap m c t) o h i3 0 q).trans (blk12 m c t 0 _)) (up2_eq t _ _ _ hg hv p))
          (congrArg₂ (· * ·) ((ld_col (tap m c t) o h i3 1 q).trans (blk12 m c t 1 _)) (up1_eq t _ _ _ hg hv p)))
        (congrArg₂ (· * ·) ((ld_col (tap m c t) o h i3 2 q).trans (blk12 m c t 2 _)) (hv p))))

/-- A slab's entry is the array's at the place it is stored to. -/
theorem at_ {N : ℕ} (R : (⟨2, ![4096, N]⟩ : Shape).Idx → EReal) (t : Fin cfg0.N) (p : Fin 512) (q : Fin N) (o : ℕ) (h : o + 256 ≤ N) (v : S512x256.Idx → EReal)
    (hv : ∀ (a : Fin 512) (b : Fin 256), v (ix2 a b) = R (ix2 (row t a) (col o h b))) (x : S512x256.Idx) (hx : ∀ k, (ix2 p q k).val = ![0, o] k + (x k).val) :
    v x = R (ix2 (row t p) q) := by
  obtain ⟨a, b, rfl⟩ : ∃ (a : Fin 512) (b : Fin 256), x = ix2 a b := ⟨x 0, x 1, eq_ix2 x⟩
  have h0 : p = a := Fin.ext ((hx 0).trans (Nat.zero_add _))
  have h1 : q = col o h b := Fin.ext (hx 1)
  subst h0 h1
  exact hv p b

theorem store14 (c : Dev nD) (t : Fin cfg0.N) (p : Fin 512) (q : Fin 2048) :
    (View.canon (Val := Elt Ideal) (s := S512x2048) (e := .bf16) [
        ⟨r0_50, k0_pay61 (k0_pay60 (inp m c t) (View.ld (wei m c t) r0_48)) (View.ld (off m c t) r0_49)⟩,
        ⟨r0_45, k0_pay54 (inp m c t) (View.ld (wei m c t) r0_43) (View.ld (off m c t) r0_44)⟩,
        ⟨r0_36, k0_pay41 (inp m c t) (View.ld (wei m c t) r0_34) (View.ld (off m c t) r0_35)⟩,
        ⟨r0_31, k0_pay34 (inp m c t) (View.ld (wei m c t) r0_29) (View.ld (off m c t) r0_30)⟩,
        ⟨r0_22, k0_pay28 (inp m c t) (View.ld (wei m c t) r0_20) (View.ld (off m c t) r0_21)⟩,
        ⟨r0_17, k0_pay20 (inp m c t) (View.ld (wei m c t) r0_15) (View.ld (off m c t) r0_16)⟩,
        ⟨r0_8, k0_pay11 (inp m c t) (View.ld (wei m c t) r0_6) (View.ld (off m c t) r0_7)⟩,
        ⟨r0_3, k0_pay7 (inp m c t) (View.ld (wei m c t) r0_1) (View.ld (off m c t) r0_2)⟩] : S512x2048.Idx → EReal) (ix2 p q) = RG m c (ix2 (row t p) q) := by
  refine View.canon_eq_of_allAt _ _ _ (View.cover_of_tiled_head _ _ _ rfl _)
    (View.allAt_cons_unit _ _ _ _ _ ?_ (View.allAt_cons_unit _ _ _ _ _ ?_ (View.allAt_cons_unit _ _ _ _ _ ?_ (View.allAt_cons_unit _ _ _ _ _ ?_
      (View.allAt_cons_unit _ _ _ _ _ ?_ (View.allAt_cons_unit _ _ _ _ _ ?_ (View.allAt_cons_unit _ _ _ _ _ ?_ (View.allAt_cons_unit _ _ _ _ _ ?_ (View.allAt_nil _ _)))))))))
  · exact at_ (RG m c) t p q 1792 (by omega) _ fun a b => gslab_apply m c t 1792 (by omega) _ _ a b
  · exact at_ (RG m c) t p q 1536 (by omega) _ fun a b => gslab_apply m c t 1536 (by omega) _ _ a b
  · exact at_ (RG m c) t p q 1280 (by omega) _ fun a b => gslab_apply m c t 1280 (by omega) _ _ a b
  · exact at_ (RG m c) t p q 1024 (by omega) _ fun a b => gslab_apply m c t 1024 (by omega) _ _ a b
  · exact at_ (RG m c) t p q 768 (by omega) _ fun a b => gslab_apply m c t 768 (by omega) _ _ a b
  · exact at_ (RG m c) t p q 512 (by omega) _ fun a b => gslab_apply m c t 512 (by omega) _ _ a b
  · exact at_ (RG m c) t p q 256 (by omega) _ fun a b => gslab_apply m c t 256 (by omega) _ _ a b
  · exact at_ (RG m c) t p q 0 (by omega) _ fun a b => gslab_apply m c t 0 (by omega) _ _ a b

theorem store17 (c : Dev nD) (t : Fin cfg0.N) (p : Fin 512) (q : Fin 1024) :
    (View.canon (Val := Elt Ideal) (s := S512x1024) (e := .bf16) [
        ⟨r0_53, k0_pay1 (k0_pay72 (View.ld (bgb m c t) r0_53)) (k0_pay73 (k0_pay66 (View.ld (cgb m c t) r0_53) (View.ld (xcb m c t) r0_53)) (k0_pay67 (BitVec.ofNat 32 (grid0.coords t 0).val) (View.ld (cgh m c t) r0_54) (View.ld (xch m c t) r0_54)) (View.ld (tap m c t) r0_55) (k0_pay68 (View.ld (tap m c t) r0_55)) (iota .tc S512x1 32 [0] iota_S512x1_d0_w32) (k0_pay69 (View.ld (cgb m c t) r0_53) (View.ld (xcb m c t) r0_53)) k0_pay70 (k0_pay71 (BitVec.ofNat 32 (grid0.coords t 0).val) (View.ld (cgh m c t) r0_54) (View.ld (xch m c t) r0_54)) (View.ld (cof m c t) r0_56))⟩,
        ⟨r0_39, k0_pay53 (k0_pay46 (View.ld (cgb m c t) r0_39) (View.ld (xcb m c t) r0_39)) (View.ld (tap m c t) r0_41) (k0_pay48 (BitVec.ofNat 32 (grid0.coords t 0).val) (View.ld (cgb m c t) r0_39) (View.ld (xcb m c t) r0_39) (View.ld (cgh m c t) r0_40) (View.ld (xch m c t) r0_40) (View.ld (tap m c t) r0_41)) (k0_pay49 (View.ld (tap m c t) r0_41)) (k0_pay50 (View.ld (cgb m c t) r0_39) (View.ld (xcb m c t) r0_39)) k0_pay51 (k0_pay52 (BitVec.ofNat 32 (grid0.coords t 0).val) (View.ld (cgh m c t) r0_40) (View.ld (xch m c t) r0_40)) (View.ld (bgb m c t) r0_39) (View.ld (cof m c t) r0_42)⟩,
        ⟨r0_25, k0_pay33 (k0_pay31 (View.ld (cgb m c t) r0_25) (View.ld (xcb m c t) r0_25)) (k0_pay32 (BitVec.ofNat 32 (grid0.coords t 0).val) (View.ld (cgh m c t) r0_26) (View.ld (xch m c t) r0_26)) (View.ld (tap m c t) r0_27) (View.ld (bgb m c t) r0_25) (View.ld (cof m c t) r0_28)⟩,
        ⟨r0_11, k0_pay19 (k0_pay16 (View.ld (cgb m c t) r0_11) (View.ld (xcb m c t) r0_11)) (k0_pay17 (BitVec.ofNat 32 (grid0.coords t 0).val) (View.ld (cgh m c t) r0_12) (View.ld (xch m c t) r0_12)) (View.ld (tap m c t) r0_13) (k0_pay18 (BitVec.ofNat 32 (grid0.coords t 0).val) (View.ld (cgb m c t) r0_11) (View.ld (xcb m c t) r0_11) (View.ld (cgh m c t) r0_12) (View.ld (xch m c t) r0_12) (View.ld (tap m c t) r0_13)) (View.ld (bgb m c t) r0_11) (View.ld (cof m c t) r0_14)⟩] : S512x1024.Idx → EReal) (ix2 p q) = RY m c (ix2 (row t p) q) := by
  refine View.canon_eq_of_allAt _ _ _ (View.cover_of_tiled_head _ _ _ rfl _)
    (View.allAt_cons_unit _ _ _ _ _ ?_ (View.allAt_cons_unit _ _ _ _ _ ?_ (View.allAt_cons_unit _ _ _ _ _ ?_ (View.allAt_cons_unit _ _ _ _ _ ?_ (View.allAt_nil _ _)))))
  · exact at_ (RY m c) t p q 768 (by omega) _ fun a b => yslab_apply m c t 768 (by omega) _ _ _ _ a b
  · exact at_ (RY m c) t p q 512 (by omega) _ fun a b => yslab_apply m c t 512 (by omega) _ _ _ _ a b
  · exact at_ (RY m c) t p q 256 (by omega) _ fun a b => yslab_apply m c t 256 (by omega) _ _ _ _ a b
  · exact at_ (RY m c) t p q 0 (by omega) _ fun a b => yslab_apply m c t 0 (by omega) _ _ _ _ a b

theorem final14 (c : Dev nD) : (dats m 0 c).arrAt 14 cfg0.N = RG m c := by
  refine (dats m 0 c).arrAt_eq_of_covers 14 _ (by decide +kernel) fun t hf y => ?_
  obtain ⟨p, q, rfl⟩ : ∃ (p : Fin 512) (q : Fin 2048), y = ix2 p q := ⟨y 0, y 1, eq_ix2 y⟩
  have e : ((View.whole main_v10_0).slice (win0_14.rect t)).emb (ix2 p q) = ix2 (row t p) q := by
    funext a
    apply Fin.ext
    match a with
    | ⟨0, _⟩ => show win0_14.index t 0 * 512 + 1 * p.val = t.val * 512 + p.val; rw [idx14]; simp
    | ⟨1, _⟩ => show win0_14.index t 1 * 2048 + 1 * q.val = q.val; rw [idx14]; simp
  blk_simp
  rw [after0_14]
  frame_out
  exact (store14 m c t p q).trans (congrArg (RG m c) e).symm

theorem final17 (c : Dev nD) : (dats m 0 c).arrAt 17 cfg0.N = RY m c := by
  refine (dats m 0 c).arrAt_eq_of_covers 17 _ (by decide +kernel) fun t hf y => ?_
  obtain ⟨p, q, rfl⟩ : ∃ (p : Fin 512) (q : Fin 1024), y = ix2 p q := ⟨y 0, y 1, eq_ix2 y⟩
  have e : ((View.whole main_v10_3).slice (win0_17.rect t)).emb (ix2 p q) = ix2 (row t p) q := by
    funext a
    apply Fin.ext
    match a with
    | ⟨0, _⟩ => show win0_17.index t 0 * 512 + 1 * p.val = t.val * 512 + p.val; rw [idx17]; simp
    | ⟨1, _⟩ => show win0_17.index t 1 * 1024 + 1 * q.val = q.val; rw [idx17]; simp
  blk_simp
  rw [after0_17]
  frame_out
  exact (store17 m c t p q).trans (congrArg (RY m c) e).symm

end Cert.GateKernelIdeal.Hand

namespace Cert.Proof.Gate

open Cert.GateKernelIdeal.Hand

section
variable (x : Cert.GateKernelIdeal.S4096x6144.Idx → EReal) (p : Fin 4096) (q : Fin 1024) (h4 : 3072 + (1024 + q.val) < 6144) (h5 : 3072 + (2048 + q.val) < 6144)

theorem sec4_eq : (⟨3072 + (1024 + q.val), h4⟩ : Fin 6144) = sec 4096 (by omega) q :=
  Fin.ext (by show 3072 + (1024 + q.val) = 4096 + q.val; omega)

theorem sec5_eq : (⟨3072 + (2048 + q.val), h5⟩ : Fin 6144) = sec 5120 (by omega) q :=
  Fin.ext (by show 3072 + (2048 + q.val) = 5120 + q.val; omega)

theorem U_eq : x (ix2 p ⟨3072 + (1024 + q.val), h4⟩) * x (ix2 p ⟨3072 + (2048 + q.val), h5⟩) = U x q p :=
  congrArg₂ (· * ·) (congrArg (fun j => x (ix2 p j)) (sec4_eq q h4)) (congrArg (fun j => x (ix2 p j)) (sec5_eq q h5))

/-- An entry of the product with two rows of zeros put above it. -/
theorem tap_eq (n a : ℕ) (ha : a + n = 2 + p.val) :
    (if h : 2 ≤ a ∧ a - 2 < 4096 then x (ix2 ⟨a - 2, h.2⟩ ⟨3072 + (1024 + q.val), h4⟩) * x (ix2 ⟨a - 2, h.2⟩ ⟨3072 + (2048 + q.val), h5⟩)
      else FloatOps.sitofp (F := Ideal) FTy.f32 0#32) = down n (U x q) p := by
  have hp := p.isLt
  unfold down
  by_cases h : n ≤ p.val
  · rw [dif_pos (show 2 ≤ a ∧ a - 2 < 4096 by omega), if_pos h]
    exact (U_eq x _ q h4 h5).trans (congrArg (U x q) (Fin.ext (by show a - 2 = p.val - n; omega)))
  · rw [dif_neg (show ¬ (2 ≤ a ∧ a - 2 < 4096) by omega), if_neg h]
    show (((0#32 : BitVec 32).toInt : ℝ) : EReal) = 0
    simp

theorem y_eq (w : Cert.GateKernelIdeal.S3x1024.Idx → EReal) (b : Cert.GateKernelIdeal.S1024.Idx → EReal) (h3 : 3072 + q.val < 6144) :
    x (ix2 p ⟨3072 + q.val, h3⟩) * (b (ix1 q) + (((w (ix2 0 q) *
        if h : 2 ≤ p.val ∧ p.val - 2 < 4096 then x (ix2 ⟨p.val - 2, h.2⟩ ⟨3072 + (1024 + q.val), h4⟩) * x (ix2 ⟨p.val - 2, h.2⟩ ⟨3072 + (2048 + q.val), h5⟩)
        else FloatOps.sitofp (F := Ideal) FTy.f32 0#32)
      + w (ix2 1 q) *
        if h : 2 ≤ 1 + p.val ∧ 1 + p.val - 2 < 4096 then x (ix2 ⟨1 + p.val - 2, h.2⟩ ⟨3072 + (1024 + q.val), h4⟩) * x (ix2 ⟨1 + p.val - 2, h.2⟩ ⟨3072 + (2048 + q.val), h5⟩)
        else FloatOps.sitofp (F := Ideal) FTy.f32 0#32)
      + w (ix2 2 q) * (x (ix2 p ⟨3072 + (1024 + q.val), h4⟩) * x (ix2 p ⟨3072 + (2048 + q.val), h5⟩)))) = Y x w b (ix2 p q) :=
  congrArg₂ (· * ·) rfl (congrArg₂ (· + ·) rfl (congrArg₂ (· + ·) (congrArg₂ (· + ·)
    (congrArg₂ (· * ·) rfl (tap_eq x p q h4 h5 2 p.val (by omega))) (congrArg₂ (· * ·) rfl (tap_eq x p q h4 h5 1 (1 + p.val) (by omega))))
    (congrArg₂ (· * ·) rfl (U_eq x p q h4 h5))))

end

theorem algebraic : Cert.algebraic_GateKernelIdeal_GateReferenceIdeal := by
  intro m ρ m' ρ' _ hagree
  refine ⟨_, _, (θ_run Cert.GateKernelIdeal.defs _ _).mono
    (fun _ h c => ⟨(h c).1.trans (final14 m c), (h c).2.2.2.1.trans (final17 m c), (h c).2.2.2.2⟩)
    (Cert.GateKernelIdeal.Value.run_blocks (F := Ideal) m ρ), ?_⟩
  refine (θ_run Cert.GateReferenceIdeal.defs _ _).mono (fun _ h c => ?_) (Cert.GateReferenceIdeal.Value.run (F := Ideal) m' ρ')
  obtain ⟨a0, a1, a2, a3, a4, a5, a6, a7⟩ := hagree c
  refine ⟨(h c).1.trans ?_, (h c).2.1.trans ?_, (h c).2.2⟩
  · rw [a0, a2, a3]
    funext i
    unfold RG G
    pointwise
    rfl
  · rw [a1, a6, a7]
    funext i
    obtain ⟨p, q, rfl⟩ : ∃ (p : Fin 4096) (q : Fin 1024), i = ix2 p q := ⟨i 0, i 1, eq_ix2 i⟩
    refine Eq.trans ?_ (y_eq (m ((c : Thread Cert.GateKernelIdeal.nD Cert.GateKernelIdeal.τ).loc Cert.GateKernelIdeal.main_arg1)) p q (by omega) (by omega)
      (m ((c : Thread Cert.GateKernelIdeal.nD Cert.GateKernelIdeal.τ).loc Cert.GateKernelIdeal.main_arg6))
      (m ((c : Thread Cert.GateKernelIdeal.nD Cert.GateKernelIdeal.τ).loc Cert.GateKernelIdeal.main_arg7)) (by omega))
    pointwise

end Cert.Proof.Gate
end
-- ==== Proof.lean ====
module

public import proofs.«01_k».proof.Defs
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.DownKernel
public import proofs.«01_k».proof.Proof.Gen.DownKernel.Skeleton
public import proofs.«01_k».proof.Proof.Gen.DownKernel.Launch
public import proofs.«01_k».proof.Proof.Gen.DownKernel.Points
public import proofs.«01_k».proof.Proof.Gen.DownKernel.Frame
public import proofs.«01_k».proof.Proof.Gen.DownKernelIdeal
public import proofs.«01_k».proof.Proof.Gen.DownKernelIdeal.Skeleton
public import proofs.«01_k».proof.Proof.Gen.DownKernelIdeal.Launch
public import proofs.«01_k».proof.Proof.Gen.DownKernelIdeal.Points
public import proofs.«01_k».proof.Proof.Gen.DownKernelIdeal.Frame
public import proofs.«01_k».proof.Proof.Gen.DownReferenceIdeal
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InReferenceIdeal
public import proofs.«01_k».proof.Proof.Gen.MlpKernel
public import proofs.«01_k».proof.Proof.Gen.MlpKernel.Skeleton
public import proofs.«01_k».proof.Proof.Gen.MlpKernel.Launch
public import proofs.«01_k».proof.Proof.Gen.MlpKernel.Points
public import proofs.«01_k».proof.Proof.Gen.MlpKernel.Frame
public import proofs.«01_k».proof.Proof.Gen.MlpKernelIdeal
public import proofs.«01_k».proof.Proof.Gen.MlpKernelIdeal.Skeleton
public import proofs.«01_k».proof.Proof.Gen.MlpKernelIdeal.Launch
public import proofs.«01_k».proof.Proof.Gen.MlpKernelIdeal.Points
public import proofs.«01_k».proof.Proof.Gen.MlpKernelIdeal.Frame
public import proofs.«01_k».proof.Proof.Gen.MlpReferenceIdeal
public import proofs.«01_k».proof.Proof.Gen.BackKernel
public import proofs.«01_k».proof.Proof.Gen.BackKernel.Skeleton
public import proofs.«01_k».proof.Proof.Gen.BackKernel.Launch
public import proofs.«01_k».proof.Proof.Gen.BackKernel.Points
public import proofs.«01_k».proof.Proof.Gen.BackKernel.Frame
public import proofs.«01_k».proof.Proof.Gen.BackKernelIdeal
public import proofs.«01_k».proof.Proof.Gen.BackKernelIdeal.Skeleton
public import proofs.«01_k».proof.Proof.Gen.BackKernelIdeal.Launch
public import proofs.«01_k».proof.Proof.Gen.BackKernelIdeal.Points
public import proofs.«01_k».proof.Proof.Gen.BackKernelIdeal.Frame
public import proofs.«01_k».proof.Proof.Gen.BackReferenceIdeal
public import proofs.«01_k».proof.Proof.Gen.ProjKernel
public import proofs.«01_k».proof.Proof.Gen.ProjKernel.Skeleton
public import proofs.«01_k».proof.Proof.Gen.ProjKernel.Launch
public import proofs.«01_k».proof.Proof.Gen.ProjKernel.Points
public import proofs.«01_k».proof.Proof.Gen.ProjKernel.Frame
public import proofs.«01_k».proof.Proof.Gen.ProjKernelIdeal
public import proofs.«01_k».proof.Proof.Gen.ProjKernelIdeal.Skeleton
public import proofs.«01_k».proof.Proof.Gen.ProjKernelIdeal.Launch
public import proofs.«01_k».proof.Proof.Gen.ProjKernelIdeal.Points
public import proofs.«01_k».proof.Proof.Gen.ProjKernelIdeal.Frame
public import proofs.«01_k».proof.Proof.Gen.ProjReferenceIdeal
public import proofs.«01_k».proof.Proof.Gen.OutKernel
public import proofs.«01_k».proof.Proof.Gen.OutKernel.Skeleton
public import proofs.«01_k».proof.Proof.Gen.OutKernel.Launch
public import proofs.«01_k».proof.Proof.Gen.OutKernel.Points
public import proofs.«01_k».proof.Proof.Gen.OutKernel.Frame
public import proofs.«01_k».proof.Proof.Gen.OutKernelIdeal
public import proofs.«01_k».proof.Proof.Gen.OutKernelIdeal.Skeleton
public import proofs.«01_k».proof.Proof.Gen.OutKernelIdeal.Launch
public import proofs.«01_k».proof.Proof.Gen.OutKernelIdeal.Points
public import proofs.«01_k».proof.Proof.Gen.OutKernelIdeal.Frame
public import proofs.«01_k».proof.Proof.Gen.OutReferenceIdeal
public import proofs.«01_k».proof.Proof.Gen.FeedKernel
public import proofs.«01_k».proof.Proof.Gen.FeedKernel.Skeleton
public import proofs.«01_k».proof.Proof.Gen.FeedKernel.Launch
public import proofs.«01_k».proof.Proof.Gen.FeedKernel.Points
public import proofs.«01_k».proof.Proof.Gen.FeedKernel.Frame
public import proofs.«01_k».proof.Proof.Gen.FeedKernelIdeal
public import proofs.«01_k».proof.Proof.Gen.FeedKernelIdeal.Skeleton
public import proofs.«01_k».proof.Proof.Gen.FeedKernelIdeal.Launch
public import proofs.«01_k».proof.Proof.Gen.FeedKernelIdeal.Points
public import proofs.«01_k».proof.Proof.Gen.FeedKernelIdeal.Frame
public import proofs.«01_k».proof.Proof.Gen.FeedReferenceIdeal
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.MixVal
public import proofs.«01_k».proof.Proof.DownVal
public import proofs.«01_k».proof.Proof.UpVal
public import proofs.«01_k».proof.Proof.InVal
public import proofs.«01_k».proof.Proof.MlpVal
public import proofs.«01_k».proof.Proof.BackVal
public import proofs.«01_k».proof.Proof.ProjVal
public import proofs.«01_k».proof.Proof.OutVal
public import proofs.«01_k».proof.Proof.FeedVal
public import proofs.«01_k».proof.Proof.GateVal
public import Idealize.ShloMosaic.Adequacy
public import Idealize.ShloMosaic.Init

@[expose] public section

noncomputable section

namespace Cert.Proof

open Idealize.ShloMosaic Idealize.SL.Sem

/-- The frames are the generated runs; a reference is host operations alone, so its frame is its run. No rule was used, so
    `preserves` says nothing more; the value claims are the modules' theorems. -/
theorem claim : Cert.Claim := ⟨
  Cert.MixKernel.Gen.facts, Cert.MixKernelIdeal.Gen.facts, Cert.MixReferenceIdeal.Gen.facts,
  Cert.DownKernel.Gen.facts, Cert.DownKernelIdeal.Gen.facts, Cert.DownReferenceIdeal.Gen.facts,
  Cert.UpKernel.Gen.facts, Cert.UpKernelIdeal.Gen.facts, Cert.UpReferenceIdeal.Gen.facts, Cert.InKernel.Gen.facts,
  Cert.InKernelIdeal.Gen.facts, Cert.InReferenceIdeal.Gen.facts, Cert.MlpKernel.Gen.facts,
  Cert.MlpKernelIdeal.Gen.facts, Cert.MlpReferenceIdeal.Gen.facts, Cert.BackKernel.Gen.facts,
  Cert.BackKernelIdeal.Gen.facts, Cert.BackReferenceIdeal.Gen.facts, Cert.ProjKernel.Gen.facts,
  Cert.ProjKernelIdeal.Gen.facts, Cert.ProjReferenceIdeal.Gen.facts, Cert.OutKernel.Gen.facts,
  Cert.OutKernelIdeal.Gen.facts, Cert.OutReferenceIdeal.Gen.facts, Cert.FeedKernel.Gen.facts,
  Cert.FeedKernelIdeal.Gen.facts, Cert.FeedReferenceIdeal.Gen.facts, Cert.GateKernel.Gen.facts,
  Cert.GateKernelIdeal.Gen.facts, Cert.GateReferenceIdeal.Gen.facts,
  fun m ρ _ => Cert.MixKernel.Gen.frame m ρ, fun m ρ _ => Cert.MixKernelIdeal.Gen.frame m ρ,
  fun m ρ _ => (θ_run Cert.MixReferenceIdeal.defs _ _).mono
    (fun r h => ⟨fun c => (h c).2.2.2.2.2.2, sem_eq_zero_of_no_sems (by decide) r.2⟩) (Cert.MixReferenceIdeal.Value.run (F := Ideal) m ρ),
  fun m ρ _ => Cert.DownKernel.Gen.frame m ρ, fun m ρ _ => Cert.DownKernelIdeal.Gen.frame m ρ,
  fun m ρ _ => (θ_run Cert.DownReferenceIdeal.defs _ _).mono
    (fun r h => ⟨fun c => (h c).2, sem_eq_zero_of_no_sems (by decide) r.2⟩) (Cert.DownReferenceIdeal.Value.run (F := Ideal) m ρ),
  fun m ρ _ => Cert.UpKernel.Gen.frame m ρ, fun m ρ _ => Cert.UpKernelIdeal.Gen.frame m ρ,
  fun m ρ _ => (θ_run Cert.UpReferenceIdeal.defs _ _).mono
    (fun r h => ⟨fun c => (h c).2, sem_eq_zero_of_no_sems (by decide) r.2⟩) (Cert.UpReferenceIdeal.Value.run (F := Ideal) m ρ),
  fun m ρ _ => Cert.InKernel.Gen.frame m ρ, fun m ρ _ => Cert.InKernelIdeal.Gen.frame m ρ,
  fun m ρ _ => (θ_run Cert.InReferenceIdeal.defs _ _).mono
    (fun r h => ⟨fun c => (h c).2, sem_eq_zero_of_no_sems (by decide) r.2⟩) (Cert.InReferenceIdeal.Value.run (F := Ideal) m ρ),
  fun m ρ _ => Cert.MlpKernel.Gen.frame m ρ, fun m ρ _ => Cert.MlpKernelIdeal.Gen.frame m ρ,
  fun m ρ _ => (θ_run Cert.MlpReferenceIdeal.defs _ _).mono
    (fun r h => ⟨fun c => (h c).2.2.2, sem_eq_zero_of_no_sems (by decide) r.2⟩) (Cert.MlpReferenceIdeal.Value.run (F := Ideal) m ρ),
  fun m ρ _ => Cert.BackKernel.Gen.frame m ρ, fun m ρ _ => Cert.BackKernelIdeal.Gen.frame m ρ,
  fun m ρ _ => (θ_run Cert.BackReferenceIdeal.defs _ _).mono
    (fun r h => ⟨fun c => (h c).2, sem_eq_zero_of_no_sems (by decide) r.2⟩) (Cert.BackReferenceIdeal.Value.run (F := Ideal) m ρ),
  fun m ρ _ => Cert.ProjKernel.Gen.frame m ρ, fun m ρ _ => Cert.ProjKernelIdeal.Gen.frame m ρ,
  fun m ρ _ => (θ_run Cert.ProjReferenceIdeal.defs _ _).mono
    (fun r h => ⟨fun c => (h c).2, sem_eq_zero_of_no_sems (by decide) r.2⟩) (Cert.ProjReferenceIdeal.Value.run (F := Ideal) m ρ),
  fun m ρ _ => Cert.OutKernel.Gen.frame m ρ, fun m ρ _ => Cert.OutKernelIdeal.Gen.frame m ρ,
  fun m ρ _ => (θ_run Cert.OutReferenceIdeal.defs _ _).mono
    (fun r h => ⟨fun c => (h c).2.2.2.2.2, sem_eq_zero_of_no_sems (by decide) r.2⟩) (Cert.OutReferenceIdeal.Value.run (F := Ideal) m ρ),
  fun m ρ _ => Cert.FeedKernel.Gen.frame m ρ, fun m ρ _ => Cert.FeedKernelIdeal.Gen.frame m ρ,
  fun m ρ _ => (θ_run Cert.FeedReferenceIdeal.defs _ _).mono
    (fun r h => ⟨fun c => (h c).2.2.2, sem_eq_zero_of_no_sems (by decide) r.2⟩) (Cert.FeedReferenceIdeal.Value.run (F := Ideal) m ρ),
  fun m ρ _ => Cert.GateKernel.Gen.frame m ρ, fun m ρ _ => Cert.GateKernelIdeal.Gen.frame m ρ,
  fun m ρ _ => (θ_run Cert.GateReferenceIdeal.defs _ _).mono
    (fun r h => ⟨fun c => (h c).2.2, sem_eq_zero_of_no_sems (by decide) r.2⟩) (Cert.GateReferenceIdeal.Value.run (F := Ideal) m ρ),
  trivial, Cert.Proof.Mix.algebraic,
  trivial, Cert.Proof.Down.algebraic,
  trivial, Cert.Proof.Up.algebraic,
  trivial, Cert.Proof.In.algebraic,
  trivial, Cert.Proof.Mlp.algebraic,
  trivial, Cert.Proof.Back.algebraic,
  trivial, Cert.Proof.Proj.algebraic,
  trivial, Cert.Proof.Out.algebraic,
  trivial, Cert.Proof.Feed.algebraic,
  trivial, Cert.Proof.Gate.algebraic⟩

end Cert.Proof

end
